-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S512x1024 .f32) (main_arg1 : FVec F S1024x16384 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S512x1024 : Shape := ⟨2, ![512, 1024]⟩
abbrev S1024x8192 : Shape := ⟨2, ![1024, 8192]⟩
abbrev S512x16384 : Shape := ⟨2, ![512, 16384]⟩
abbrev S16x512x1024 : Shape := ⟨3, ![16, 512, 1024]⟩
abbrev S2x1024x1024 : Shape := ⟨3, ![2, 1024, 1024]⟩
abbrev S2 : Shape := ⟨1, ![2]⟩
abbrev S4 : Shape := ⟨1, ![4]⟩
abbrev S16 : Shape := ⟨1, ![16]⟩
abbrev S_ : Shape := ⟨0, ![]⟩
abbrev S512x1 : Shape := ⟨2, ![512, 1]⟩
abbrev S1 : Shape := ⟨1, ![1]⟩
abbrev S1x1024x1024 : Shape := ⟨3, ![1, 1024, 1024]⟩
abbrev S1024x1024 : Shape := ⟨2, ![1024, 1024]⟩
abbrev S1x512x1024 : Shape := ⟨3, ![1, 512, 1024]⟩
abbrev S512 : Shape := ⟨1, ![512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .bf16⟩
  | .local _ .vmem, ⟨0, _⟩ => ⟨S512x1024, .f32⟩
  | .local _ .vmem, ⟨1, _⟩ => ⟨S16x512x1024, .bf16⟩
  | .local _ .vmem, ⟨2, _⟩ => ⟨S2x1024x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v18 : BitVec 32 := Scalar.muli v9 c4_i32_10
  let v19 : BitVec 32 := Scalar.addi c0_i32 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v22 : BitVec 32 := Scalar.muli v8 c1_i32_12
  let v23 : BitVec 32 := Scalar.addi v21 v22
  v23.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_16 : BitVec 32 := 2#32
  let v26 : BitVec 32 := Scalar.muli v10 c2_i32_16
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v28 : BitVec 32 := Scalar.muli v8 c1_i32_17
  let v29 : BitVec 32 := Scalar.addi v27 v28
  v29.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v30 : BitVec 32 := Scalar.muli v2 c4_i32_19
  let v31 : BitVec 32 := Scalar.addi c0_i32_20 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v32 : BitVec 32 := Scalar.muli v5 c2_i32_21
  let v33 : BitVec 32 := Scalar.addi v31 v32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_22 : BitVec 32 := 1#32
  let v34 : BitVec 32 := Scalar.muli v11 c1_i32_22
  let v35 : BitVec 32 := Scalar.addi v33 v34
  v35.toNat
def k0_off1 (d0 : Dev nD) (c0_i32_25 : BitVec 32) : Fin 2 → Nat :=
  let c0_i32_30 : BitVec 32 := 0#32
  let c2_i32_24 : BitVec 32 := 2#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v40 : BitVec 32 := Scalar.muli c2_i32_24 v13
  let v41 : BitVec 32 := Scalar.addi v40 c0_i32_25
  let c8_i32 : BitVec 32 := 8#32
  let v42 : BitVec 32 := Scalar.remsi v41 c8_i32
  let c1024_i32 : BitVec 32 := 1024#32
  let v43 : BitVec 32 := Scalar.muli v42 c1024_i32
  ![0, v43.toNat]
def k0_off2 (d0 : Dev nD) (c0_i32_59 : BitVec 32) : Fin 3 → Nat :=
  let c8_i32_58 : BitVec 32 := 8#32
  let c2_i32_57 : BitVec 32 := 2#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v79 : BitVec 32 := Scalar.muli c2_i32_57 v13
  let v80 : BitVec 32 := Scalar.addi c8_i32_58 v79
  let v81 : BitVec 32 := Scalar.addi v80 c0_i32_59
  let c0_i32_67 : BitVec 32 := 0#32
  let c0_i32_68 : BitVec 32 := 0#32
  ![v81.toNat, 0, 0]
def k0_dev4 (d0 : Dev nD) : Nat :=
  let c0_i32_64 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_63 : BitVec 32 := 4#32
  let v82 : BitVec 32 := Scalar.muli v9 c4_i32_63
  let v83 : BitVec 32 := Scalar.addi c0_i32_64 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v84 : BitVec 32 := Scalar.muli v5 c2_i32_65
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v86 : BitVec 32 := Scalar.muli v8 c1_i32_66
  let v87 : BitVec 32 := Scalar.addi v85 v86
  v87.toNat
def k0_dev5 (d0 : Dev nD) : Nat :=
  let c0_i32_103 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_102 : BitVec 32 := 4#32
  let v129 : BitVec 32 := Scalar.muli v9 c4_i32_102
  let v130 : BitVec 32 := Scalar.addi c0_i32_103 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v131 : BitVec 32 := Scalar.muli v5 c2_i32_104
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v133 : BitVec 32 := Scalar.muli v8 c1_i32_105
  let v134 : BitVec 32 := Scalar.addi v132 v133
  v134.toNat
def k0_dev6 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v335 : BitVec 32 := Scalar.muli v2 c4_i32_270
  let v336 : BitVec 32 := Scalar.addi c0_i32_271 v335
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_272 : BitVec 32 := 2#32
  let v337 : BitVec 32 := Scalar.muli v10 c2_i32_272
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_273 : BitVec 32 := 1#32
  let v339 : BitVec 32 := Scalar.muli v8 c1_i32_273
  let v340 : BitVec 32 := Scalar.addi v338 v339
  v340.toNat
def k0_off3 (d0 : Dev nD) (c0_i32_279 : BitVec 32) : Fin 1 → Nat :=
  let c2_i32_278 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v349 : BitVec 32 := Scalar.muli c2_i32_278 v5
  let v350 : BitVec 32 := Scalar.addi v349 c0_i32_279
  ![v350.toNat]
def k0_dev7 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_286 : BitVec 32 := 4#32
  let v357 : BitVec 32 := Scalar.muli v2 c4_i32_286
  let v358 : BitVec 32 := Scalar.addi c0_i32_287 v357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v359 : BitVec 32 := Scalar.muli v5 c2_i32_288
  let v360 : BitVec 32 := Scalar.addi v358 v359
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_289 : BitVec 32 := 1#32
  let v361 : BitVec 32 := Scalar.muli v11 c1_i32_289
  let v362 : BitVec 32 := Scalar.addi v360 v361
  v362.toNat
def k0_off4 (d0 : Dev nD) (c0_i32_296 : BitVec 32) : Fin 3 → Nat :=
  let c8_i32_295 : BitVec 32 := 8#32
  let c2_i32_294 : BitVec 32 := 2#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v371 : BitVec 32 := Scalar.muli c2_i32_294 v13
  let v372 : BitVec 32 := Scalar.addi c8_i32_295 v371
  let v373 : BitVec 32 := Scalar.addi v372 c0_i32_296
  let v374 : Index := Scalar.indexCast v373
  let c0_297 : Index := 0#32
  let c0_298 : Index := 0#32
  ![v374.toNat, 0, 0]
def k0_dev8 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v402 : BitVec 32 := Scalar.muli v2 c4_i32_322
  let v403 : BitVec 32 := Scalar.addi c0_i32_323 v402
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_324 : BitVec 32 := 2#32
  let v404 : BitVec 32 := Scalar.muli v10 c2_i32_324
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v406 : BitVec 32 := Scalar.muli v8 c1_i32_325
  let v407 : BitVec 32 := Scalar.addi v405 v406
  v407.toNat
def k0_dev9 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v424 : BitVec 32 := Scalar.muli v2 c4_i32_338
  let v425 : BitVec 32 := Scalar.addi c0_i32_339 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v426 : BitVec 32 := Scalar.muli v5 c2_i32_340
  let v427 : BitVec 32 := Scalar.addi v425 v426
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_341 : BitVec 32 := 1#32
  let v428 : BitVec 32 := Scalar.muli v11 c1_i32_341
  let v429 : BitVec 32 := Scalar.addi v427 v428
  v429.toNat
def k0_off5 (d0 : Dev nD) (c0_i32_354 : BitVec 32) : Fin 3 → Nat :=
  let c8_i32_353 : BitVec 32 := 8#32
  let c2_i32_352 : BitVec 32 := 2#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v448 : BitVec 32 := Scalar.muli c2_i32_352 v16
  let v449 : BitVec 32 := Scalar.addi c8_i32_353 v448
  let v450 : BitVec 32 := Scalar.addi v449 c0_i32_354
  let c0_i32_362 : BitVec 32 := 0#32
  let c0_i32_363 : BitVec 32 := 0#32
  ![v450.toNat, 0, 0]
def k0_off6 (d0 : Dev nD) (c0_i32_368 : BitVec 32) : Fin 1 → Nat :=
  let c2_i32_367 : BitVec 32 := 2#32
  let c1_i32_366 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_366 v5
  let v464 : BitVec 32 := Scalar.muli c2_i32_367 v463
  let v465 : BitVec 32 := Scalar.addi v464 c0_i32_368
  ![v465.toNat]
def k0_dev10 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v472 : BitVec 32 := Scalar.muli v2 c4_i32_375
  let v473 : BitVec 32 := Scalar.addi c0_i32_376 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v474 : BitVec 32 := Scalar.muli v5 c2_i32_377
  let v475 : BitVec 32 := Scalar.addi v473 v474
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_378 : BitVec 32 := 1#32
  let v476 : BitVec 32 := Scalar.muli v11 c1_i32_378
  let v477 : BitVec 32 := Scalar.addi v475 v476
  v477.toNat
def k0_off7 (d0 : Dev nD) (c0_i32_385 : BitVec 32) : Fin 3 → Nat :=
  let c8_i32_384 : BitVec 32 := 8#32
  let c2_i32_383 : BitVec 32 := 2#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v486 : BitVec 32 := Scalar.muli c2_i32_383 v16
  let v487 : BitVec 32 := Scalar.addi c8_i32_384 v486
  let v488 : BitVec 32 := Scalar.addi v487 c0_i32_385
  let v489 : Index := Scalar.indexCast v488
  let c0_386 : Index := 0#32
  let c0_387 : Index := 0#32
  ![v489.toNat, 0, 0]
def k0_dev11 (d0 : Dev nD) : Nat :=
  let c0_i32_413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_412 : BitVec 32 := 4#32
  let v520 : BitVec 32 := Scalar.muli v2 c4_i32_412
  let v521 : BitVec 32 := Scalar.addi c0_i32_413 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v522 : BitVec 32 := Scalar.muli v5 c2_i32_414
  let v523 : BitVec 32 := Scalar.addi v521 v522
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_415 : BitVec 32 := 1#32
  let v524 : BitVec 32 := Scalar.muli v11 c1_i32_415
  let v525 : BitVec 32 := Scalar.addi v523 v524
  v525.toNat
@[reducible] def k0_t1_loop : Scf.Loop 32 :=
  let c0_i32_426 : BitVec 32 := 0#32
  let c4_i32_427 : BitVec 32 := 4#32
  let v544 : BitVec 32 := Scalar.addi c0_i32_426 c4_i32_427
  let c1_i32_428 : BitVec 32 := 1#32
  ⟨c0_i32_426, v544, c1_i32_428⟩
def k0_off8 (k0_t1 : Fin k0_t1_loop.trips) : Fin 1 → Nat :=
  let c0_i32_426 : BitVec 32 := 0#32
  let c1_i32_428 : BitVec 32 := 1#32
  let arg13 : BitVec 32 := Scf.iv c0_i32_426 c1_i32_428 k0_t1
  ![arg13.toNat]
def k0_off9 (d0 : Dev nD) (k0_t1 : Fin k0_t1_loop.trips) : Fin 3 → Nat :=
  let c8_i32_719 : BitVec 32 := 8#32
  let c2_i32_715 : BitVec 32 := 2#32
  let c1_i32_714 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v837 : BitVec 32 := Scalar.subi c1_i32_714 v8
  let v838 : BitVec 32 := Scalar.muli c2_i32_715 v837
  let c0_i32_426 : BitVec 32 := 0#32
  let c1_i32_428 : BitVec 32 := 1#32
  let arg13 : BitVec 32 := Scf.iv c0_i32_426 c1_i32_428 k0_t1
  let v839 : BitVec 32 := Scalar.addi v838 arg13
  let c2_i32_716 : BitVec 32 := 2#32
  let v840 : BitVec 1 := Scalar.cmpi .sge arg13 c2_i32_716
  let c2_i32_717 : BitVec 32 := 2#32
  let c0_i32_718 : BitVec 32 := 0#32
  let v841 : BitVec 32 := Scalar.select v840 c2_i32_717 c0_i32_718
  let v842 : BitVec 32 := Scalar.addi v839 v841
  let v843 : BitVec 32 := Scalar.addi c8_i32_719 v842
  let c0_i32_725 : BitVec 32 := 0#32
  let c0_i32_726 : BitVec 32 := 0#32
  ![v843.toNat, 0, 0]
def k0_off10 (d0 : Dev nD) (k0_t1 : Fin k0_t1_loop.trips) : Fin 3 → Nat :=
  let c8_i32_719 : BitVec 32 := 8#32
  let c2_i32_715 : BitVec 32 := 2#32
  let c1_i32_714 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v837 : BitVec 32 := Scalar.subi c1_i32_714 v8
  let v838 : BitVec 32 := Scalar.muli c2_i32_715 v837
  let c0_i32_426 : BitVec 32 := 0#32
  let c1_i32_428 : BitVec 32 := 1#32
  let arg13 : BitVec 32 := Scf.iv c0_i32_426 c1_i32_428 k0_t1
  let v839 : BitVec 32 := Scalar.addi v838 arg13
  let c2_i32_716 : BitVec 32 := 2#32
  let v840 : BitVec 1 := Scalar.cmpi .sge arg13 c2_i32_716
  let c2_i32_717 : BitVec 32 := 2#32
  let c0_i32_718 : BitVec 32 := 0#32
  let v841 : BitVec 32 := Scalar.select v840 c2_i32_717 c0_i32_718
  let v842 : BitVec 32 := Scalar.addi v839 v841
  let v843 : BitVec 32 := Scalar.addi c8_i32_719 v842
  let v856 : Index := Scalar.indexCast v843
  let c0_729 : Index := 0#32
  let c0_730 : Index := 0#32
  ![v856.toNat, 0, 0]
@[reducible] def k0_t2_loop : Scf.Loop 32 :=
  let c0_i32_503 : BitVec 32 := 0#32
  let c16_i32 : BitVec 32 := 16#32
  let v596 : BitVec 32 := Scalar.addi c0_i32_503 c16_i32
  let c1_i32_504 : BitVec 32 := 1#32
  ⟨c0_i32_503, v596, c1_i32_504⟩
def k0_off11 (k0_t2 : Fin k0_t2_loop.trips) : Fin 3 → Nat :=
  let c0_i32_503 : BitVec 32 := 0#32
  let c1_i32_504 : BitVec 32 := 1#32
  let arg13 : BitVec 32 := Scf.iv c0_i32_503 c1_i32_504 k0_t2
  let v837 : Index := Scalar.indexCast arg13
  let c0_714 : Index := 0#32
  let c0_715 : Index := 0#32
  ![v837.toNat, 0, 0]
def k0_off12 (k0_t2 : Fin k0_t2_loop.trips) : Fin 1 → Nat :=
  let c0_i32_503 : BitVec 32 := 0#32
  let c1_i32_504 : BitVec 32 := 1#32
  let arg13 : BitVec 32 := Scf.iv c0_i32_503 c1_i32_504 k0_t2
  ![arg13.toNat]
def k0_off13 (d0 : Dev nD) (k0_t2 : Fin k0_t2_loop.trips) : Fin 2 → Nat :=
  let c0_i32_726 : BitVec 32 := 0#32
  let c0_i32_503 : BitVec 32 := 0#32
  let c1_i32_504 : BitVec 32 := 1#32
  let arg13 : BitVec 32 := Scf.iv c0_i32_503 c1_i32_504 k0_t2
  let c8_i32_718 : BitVec 32 := 8#32
  let v848 : BitVec 1 := Scalar.cmpi .slt arg13 c8_i32_718
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_719 : BitVec 32 := 8#32
  let v849 : BitVec 32 := Scalar.muli v2 c8_i32_719
  let c2_i32_720 : BitVec 32 := 2#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v850 : BitVec 32 := Scalar.muli c2_i32_720 v13
  let v851 : BitVec 32 := Scalar.addi v850 arg13
  let c8_i32_721 : BitVec 32 := 8#32
  let v852 : BitVec 32 := Scalar.remsi v851 c8_i32_721
  let v853 : BitVec 32 := Scalar.addi v849 v852
  let c1_i32_722 : BitVec 32 := 1#32
  let v854 : BitVec 32 := Scalar.subi c1_i32_722 v2
  let c8_i32_723 : BitVec 32 := 8#32
  let v855 : BitVec 32 := Scalar.muli v854 c8_i32_723
  let c8_i32_724 : BitVec 32 := 8#32
  let v856 : BitVec 32 := Scalar.subi arg13 c8_i32_724
  let v857 : BitVec 32 := Scalar.addi v855 v856
  let v858 : BitVec 32 := Scalar.select v848 v853 v857
  let c1024_i32_725 : BitVec 32 := 1024#32
  let v859 : BitVec 32 := Scalar.muli v858 c1024_i32_725
  ![0, v859.toNat]
def k0_off14 (k0_t2 : Fin k0_t2_loop.trips) : Fin 3 → Nat :=
  let c0_i32_503 : BitVec 32 := 0#32
  let c1_i32_504 : BitVec 32 := 1#32
  let arg13 : BitVec 32 := Scf.iv c0_i32_503 c1_i32_504 k0_t2
  let c0_i32_727 : BitVec 32 := 0#32
  let c0_i32_728 : BitVec 32 := 0#32
  ![arg13.toNat, 0, 0]
def k0_off15 (d0 : Dev nD) (true_512 : BitVec 1) (c0_i32_508 : BitVec 32) (c_m8_i32 : BitVec 32) : Fin 2 → Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8_i32_506 : BitVec 32 := 8#32
  let v597 : BitVec 32 := Scalar.muli v2 c8_i32_506
  let c2_i32_507 : BitVec 32 := 2#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v598 : BitVec 32 := Scalar.muli c2_i32_507 v13
  let v599 : BitVec 32 := Scalar.addi v598 c0_i32_508
  let c8_i32_509 : BitVec 32 := 8#32
  let v600 : BitVec 32 := Scalar.remsi v599 c8_i32_509
  let v601 : BitVec 32 := Scalar.addi v597 v600
  let c1_i32_510 : BitVec 32 := 1#32
  let v602 : BitVec 32 := Scalar.subi c1_i32_510 v2
  let c8_i32_511 : BitVec 32 := 8#32
  let v603 : BitVec 32 := Scalar.muli v602 c8_i32_511
  let v604 : BitVec 32 := Scalar.addi v603 c_m8_i32
  let v605 : BitVec 32 := Scalar.select true_512 v601 v604
  let c1024_i32_513 : BitVec 32 := 1024#32
  let v606 : BitVec 32 := Scalar.muli v605 c1024_i32_513
  ![0, v606.toNat]
def k0_off15_at (r : Fin 16) : BitVec 1 × BitVec 32 × BitVec 32 :=
  if r.val < 8 then
    if r.val < 4 then
      if r.val < 2 then
        if r.val < 1 then
          (1#1, 0#32, 4294967288#32)
        else
          (1#1, 1#32, 4294967289#32)
      else
        if r.val < 3 then
          (1#1, 2#32, 4294967290#32)
        else
          (1#1, 3#32, 4294967291#32)
    else
      if r.val < 6 then
        if r.val < 5 then
          (1#1, 4#32, 4294967292#32)
        else
          (1#1, 5#32, 4294967293#32)
      else
        if r.val < 7 then
          (1#1, 6#32, 4294967294#32)
        else
          (1#1, 7#32, 4294967295#32)
  else
    if r.val < 12 then
      if r.val < 10 then
        if r.val < 9 then
          (0#1, 8#32, 0#32)
        else
          (0#1, 9#32, 1#32)
      else
        if r.val < 11 then
          (0#1, 10#32, 2#32)
        else
          (0#1, 11#32, 3#32)
    else
      if r.val < 14 then
        if r.val < 13 then
          (0#1, 12#32, 4#32)
        else
          (0#1, 13#32, 5#32)
      else
        if r.val < 15 then
          (0#1, 14#32, 6#32)
        else
          (0#1, 15#32, 7#32)
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | .hbm, ⟨14, _⟩ => ⟨S512x16384, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Slots.lean ====
/-
# The buffers in pieces

The kernel works on four buffers: `cc0_scratch0`, sixteen slots of one `[512, 1024]` tile each; `cc0_scratch1`, two
slots of one `[1024, 1024]` chunk of the weights each; the device's weights `main_arg1`, eight chunks of 1024 columns;
and the result `main_v1`, sixteen blocks of 1024 columns. Here each is cut into those pieces, and what a load, a store
and a copy between two pieces do is said piece by piece.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueLayout
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx

variable {F : FTy → Type} [FloatOps F]

/-! ## The memrefs -/

/-- The sixteen slots. -/
abbrev eM : Memref sig .tc .vmem S16x512x1024 .bf16 := Memref.whole cc0_scratch0
/-- The two weight chunks. -/
abbrev wM : Memref sig .tc .vmem S2x1024x1024 .f32 := Memref.whole cc0_scratch1
/-- The device's weights. -/
abbrev aM : Memref sig .tc .hbm S1024x8192 .f32 := Memref.whole main_arg1
/-- The result. -/
abbrev oM : Memref sig .tc .hbm S512x16384 .bf16 := Memref.whole main_v1

/-- The slot at offsets `off`, as a copy's end. -/
abbrev slotV (off : Fin 3 → ℕ) (h : ∀ a, off a + S1x512x1024.size a ≤ S16x512x1024.size a) : Memref sig .tc .vmem S512x1024 .bf16 :=
  (eM.slice (Rect.unit (s := S16x512x1024) off S1x512x1024.size h) (fun _ => rfl)).squeeze S512x1024 squeezes_S1x512x1024_S512x1024
/-- The weight buffer's half at offsets `off`, as a copy's end. -/
abbrev halfV (off : Fin 3 → ℕ) (h : ∀ a, off a + S1x1024x1024.size a ≤ S2x1024x1024.size a) : Memref sig .tc .vmem S1024x1024 .f32 :=
  (wM.slice (Rect.unit (s := S2x1024x1024) off S1x1024x1024.size h) (fun _ => rfl)).squeeze S1024x1024 squeezes_S1x1024x1024_S1024x1024
/-- The weights' columns from `off`, as a copy's end. -/
abbrev winV (off : Fin 2 → ℕ) (h : ∀ a, off a + S1024x1024.size a ≤ S1024x8192.size a) : Memref sig .tc .hbm S1024x1024 .f32 :=
  aM.slice (Rect.unit (s := S1024x8192) off S1024x1024.size h) (fun _ => rfl)
/-- The result's columns from `off`, as a copy's end. -/
abbrev outV (off : Fin 2 → ℕ) (h : ∀ a, off a + S512x1024.size a ≤ S512x16384.size a) : Memref sig .tc .hbm S512x1024 .bf16 :=
  oM.slice (Rect.unit (s := S512x16384) off S512x1024.size h) (fun _ => rfl)

/-! ## The pieces -/

/-- The elements of slot `k`. -/
def slotSet (k : ℕ) : Finset S16x512x1024.Idx := Finset.univ.filter fun i => (i 0).val = k
/-- The elements of the weight buffer's half `b`. -/
def halfSet (b : ℕ) : Finset S2x1024x1024.Idx := Finset.univ.filter fun i => (i 0).val = b
/-- The weights' block `p` of 1024 columns. -/
def winSet (p : ℕ) : Finset S1024x8192.Idx := Finset.univ.filter fun i => (i 1).val / 1024 = p
/-- The result's block `p` of 1024 columns. -/
def outSet (p : ℕ) : Finset S512x16384.Idx := Finset.univ.filter fun i => (i 1).val / 1024 = p

/-- One tile laid over every slot. -/
def spread (v : S1x512x1024.Idx → Elt F .bf16) : S16x512x1024.Idx → Elt F .bf16 := fun i => v (ix3 (⟨0, Nat.one_pos⟩ : Fin 1) (i 1) (i 2))
/-- One chunk laid over both halves of the weight buffer. -/
def spreadW (v : S1x1024x1024.Idx → Elt F .f32) : S2x1024x1024.Idx → Elt F .f32 := fun i => v (ix3 (⟨0, Nat.one_pos⟩ : Fin 1) (i 1) (i 2))
/-- One tile laid over every column block of the result. -/
def spreadO (v : S1x512x1024.Idx → Elt F .bf16) : S512x16384.Idx → Elt F .bf16 :=
  fun i => v (ix3 (⟨0, Nat.one_pos⟩ : Fin 1) (i 0) (⟨(i 1).val % 1024, Nat.mod_lt _ (by decide)⟩ : Fin 1024))
/-- Block `p` of 1024 columns of the weights, as a chunk. -/
def chunk (A : S1024x8192.Idx → Elt F .f32) (p : ℕ) : S1x1024x1024.Idx → Elt F .f32 :=
  fun i => A (ix2 (i 1) (⟨(p * 1024 + (i 2).val) % 8192, Nat.mod_lt _ (by decide)⟩ : Fin 8192))

theorem mem_slotSet {k : ℕ} {i : S16x512x1024.Idx} : i ∈ slotSet k ↔ (i 0).val = k := by simp [slotSet]
theorem mem_halfSet {k : ℕ} {i : S2x1024x1024.Idx} : i ∈ halfSet k ↔ (i 0).val = k := by simp [halfSet]
theorem mem_winSet {k : ℕ} {i : S1024x8192.Idx} : i ∈ winSet k ↔ (i 1).val / 1024 = k := by simp [winSet]
theorem mem_outSet {k : ℕ} {i : S512x16384.Idx} : i ∈ outSet k ↔ (i 1).val / 1024 = k := by simp [outSet]

/-! ## Where the ends of the copies lie -/

theorem rect3_emb {d : Fin 3 → ℕ} {off size : Fin 3 → ℕ} (h : ∀ a, off a + size a ≤ (⟨3, d⟩ : Shape).size a)
    (x : (Rect.unit (s := ⟨3, d⟩) off size h).shape.Idx) (a : Fin 3) :
    ((Rect.unit (s := ⟨3, d⟩) off size h).emb x a).val = off a + (x a).val := by
  rw [Rect.emb_apply]; simp

theorem slot_emb {off : Fin 3 → ℕ} {h} (k : ℕ) (ho : off = ![k, 0, 0]) (x : S512x1024.Idx) :
    ((slotV off h).view.emb x : S16x512x1024.Idx) = ix3 (⟨k, by subst ho; have := h 0; simp at this; omega⟩ : Fin 16) (x 0) (x 1) := by
  subst ho
  have hx : x = ix2 (x 0) (x 1) := by funext a; fin_cases a <;> rfl
  have he (hn) : Shape.reshapeEquiv (s := S1x512x1024) (s' := S512x1024) hn x = ix3 (⟨0, Nat.one_pos⟩ : Fin 1) (x 0) (x 1) :=
    (congrArg _ hx).trans (reshapeEquiv_ix2_1ab (a := 512) (b := 1024) hn (x 0) (x 1))
  show (Rect.unit (s := S16x512x1024) _ S1x512x1024.size h).emb (Shape.reshapeEquiv _ x) = _
  rw [he]
  funext a; apply Fin.ext
  refine (rect3_emb h _ a).trans ?_
  fin_cases a <;> first | rfl | exact Nat.zero_add _

theorem half_emb {off : Fin 3 → ℕ} {h} (k : ℕ) (ho : off = ![k, 0, 0]) (x : S1024x1024.Idx) :
    ((halfV off h).view.emb x : S2x1024x1024.Idx) = ix3 (⟨k, by subst ho; have := h 0; simp at this; omega⟩ : Fin 2) (x 0) (x 1) := by
  subst ho
  have hx : x = ix2 (x 0) (x 1) := by funext a; fin_cases a <;> rfl
  have he (hn) : Shape.reshapeEquiv (s := S1x1024x1024) (s' := S1024x1024) hn x = ix3 (⟨0, Nat.one_pos⟩ : Fin 1) (x 0) (x 1) :=
    (congrArg _ hx).trans (reshapeEquiv_ix2_1ab (a := 1024) (b := 1024) hn (x 0) (x 1))
  show (Rect.unit (s := S2x1024x1024) _ S1x1024x1024.size h).emb (Shape.reshapeEquiv _ x) = _
  rw [he]
  funext a; apply Fin.ext
  refine (rect3_emb h _ a).trans ?_
  fin_cases a <;> first | rfl | exact Nat.zero_add _

theorem rect2_emb {d : Fin 2 → ℕ} {off size : Fin 2 → ℕ} (h : ∀ a, off a + size a ≤ (⟨2, d⟩ : Shape).size a)
    (x : (Rect.unit (s := ⟨2, d⟩) off size h).shape.Idx) (a : Fin 2) :
    ((Rect.unit (s := ⟨2, d⟩) off size h).emb x a).val = off a + (x a).val := by
  rw [Rect.emb_apply]; simp

theorem win_emb0 {off : Fin 2 → ℕ} {h} (p : ℕ) (ho : off = ![0, p * 1024]) (x : S1024x1024.Idx) :
    (((winV off h).view.emb x : S1024x8192.Idx) 0).val = (x 0).val := by
  subst ho
  show ((Rect.unit (s := S1024x8192) _ S1024x1024.size h).emb x 0).val = _
  rw [rect2_emb]; simp
theorem win_emb1 {off : Fin 2 → ℕ} {h} (p : ℕ) (ho : off = ![0, p * 1024]) (x : S1024x1024.Idx) :
    (((winV off h).view.emb x : S1024x8192.Idx) 1).val = p * 1024 + (x 1).val := by
  subst ho
  show ((Rect.unit (s := S1024x8192) _ S1024x1024.size h).emb x 1).val = _
  rw [rect2_emb]; simp
theorem out_emb0 {off : Fin 2 → ℕ} {h} (p : ℕ) (ho : off = ![0, p * 1024]) (x : S512x1024.Idx) :
    (((outV off h).view.emb x : S512x16384.Idx) 0).val = (x 0).val := by
  subst ho
  show ((Rect.unit (s := S512x16384) _ S512x1024.size h).emb x 0).val = _
  rw [rect2_emb]; simp
theorem out_emb1 {off : Fin 2 → ℕ} {h} (p : ℕ) (ho : off = ![0, p * 1024]) (x : S512x1024.Idx) :
    (((outV off h).view.emb x : S512x16384.Idx) 1).val = p * 1024 + (x 1).val := by
  subst ho
  show ((Rect.unit (s := S512x16384) _ S512x1024.size h).emb x 1).val = _
  rw [rect2_emb]; simp

theorem slot_set {off : Fin 3 → ℕ} {h} (k : ℕ) (ho : off = ![k, 0, 0]) : (slotV off h).view.set = slotSet k := by
  ext i
  constructor
  · intro hi
    obtain ⟨x, -, e⟩ := Finset.mem_map.mp hi
    rw [← e]; exact mem_slotSet.mpr (congrArg (fun j : S16x512x1024.Idx => (j 0).val) (slot_emb (h := h) k ho x))
  · intro hi
    have hk : (i 0).val = k := mem_slotSet.mp hi
    refine Finset.mem_map.mpr ⟨ix2 (i 1) (i 2), Finset.mem_univ _, (slot_emb (h := h) k ho _).trans ?_⟩
    subst hk; funext a; fin_cases a <;> rfl
theorem half_set {off : Fin 3 → ℕ} {h} (k : ℕ) (ho : off = ![k, 0, 0]) : (halfV off h).view.set = halfSet k := by
  ext i
  constructor
  · intro hi
    obtain ⟨x, -, e⟩ := Finset.mem_map.mp hi
    rw [← e]; exact mem_halfSet.mpr (congrArg (fun j : S2x1024x1024.Idx => (j 0).val) (half_emb (h := h) k ho x))
  · intro hi
    have hk : (i 0).val = k := mem_halfSet.mp hi
    refine Finset.mem_map.mpr ⟨ix2 (i 1) (i 2), Finset.mem_univ _, (half_emb (h := h) k ho _).trans ?_⟩
    subst hk; funext a; fin_cases a <;> rfl
theorem win_set {off : Fin 2 → ℕ} {h} (p : ℕ) (ho : off = ![0, p * 1024]) : (winV off h).view.set = winSet p := by
  ext i
  constructor
  · intro hi
    obtain ⟨x, -, e⟩ := Finset.mem_map.mp hi
    have h1 := win_emb1 (h := h) p ho x
    have h2 : (x 1).val < 1024 := (x 1).isLt
    rw [← e]; refine mem_winSet.mpr ?_
    refine Eq.trans (congrArg (· / 1024) h1) ?_
    show (p * 1024 + (x 1).val) / 1024 = p; omega
  · intro hi
    have hk : (i 1).val / 1024 = p := mem_winSet.mp hi
    refine Finset.mem_map.mpr ⟨ix2 (i 0) (⟨(i 1).val % 1024, Nat.mod_lt _ (by decide)⟩ : Fin 1024), Finset.mem_univ _, ?_⟩
    funext a; apply Fin.ext
    fin_cases a
    · exact win_emb0 (h := h) p ho _
    · refine (win_emb1 (h := h) p ho _).trans ?_
      show p * 1024 + (i 1).val % 1024 = (i 1).val; omega
theorem out_set {off : Fin 2 → ℕ} {h} (p : ℕ) (ho : off = ![0, p * 1024]) : (outV off h).view.set = outSet p := by
  ext i
  constructor
  · intro hi
    obtain ⟨x, -, e⟩ := Finset.mem_map.mp hi
    have h1 := out_emb1 (h := h) p ho x
    have h2 : (x 1).val < 1024 := (x 1).isLt
    rw [← e]; refine mem_outSet.mpr ?_
    refine Eq.trans (congrArg (· / 1024) h1) ?_
    show (p * 1024 + (x 1).val) / 1024 = p; omega
  · intro hi
    have hk : (i 1).val / 1024 = p := mem_outSet.mp hi
    refine Finset.mem_map.mpr ⟨ix2 (i 0) (⟨(i 1).val % 1024, Nat.mod_lt _ (by decide)⟩ : Fin 1024), Finset.mem_univ _, ?_⟩
    funext a; apply Fin.ext
    fin_cases a
    · exact out_emb0 (h := h) p ho _
    · refine (out_emb1 (h := h) p ho _).trans ?_
      show p * 1024 + (i 1).val % 1024 = (i 1).val; omega

/-! ## Loads and stores of a piece -/

/-- The rectangle of slot offsets `off`. -/
abbrev slotR (off : Fin 3 → ℕ) (h : ∀ a, off a + S1x512x1024.size a ≤ S16x512x1024.size a) : Rect S16x512x1024 := Rect.unit (s := S16x512x1024) off S1x512x1024.size h
/-- The rectangle of half offsets `off`. -/
abbrev halfR (off : Fin 3 → ℕ) (h : ∀ a, off a + S1x1024x1024.size a ≤ S2x1024x1024.size a) : Rect S2x1024x1024 := Rect.unit (s := S2x1024x1024) off S1x1024x1024.size h

theorem slotAcc_set {off : Fin 3 → ℕ} {h} (k : ℕ) (ho : off = ![k, 0, 0]) : (eM.access (slotR off h)).set = slotSet k :=
  (View.set_reshape _ _).symm.trans (slot_set (h := h) k ho)
theorem slotR_sub {off : Fin 3 → ℕ} {h} (k : ℕ) (ho : off = ![k, 0, 0]) : (eM.access (slotR off h)).setOn Finset.univ ⊆ slotSet k :=
  (slotAcc_set (h := h) k ho).subset
theorem slotL_sub {off : Fin 3 → ℕ} {h} (k : ℕ) (ho : off = ![k, 0, 0]) : eM.view.setOn (slotR off h).toLoadRect.set ⊆ slotSet k := by
  rw [← slotAcc_set (h := h) k ho]
  exact (View.set_slice eM.view (slotR off h)).symm.subset
theorem halfL_sub {off : Fin 3 → ℕ} {h} (k : ℕ) (ho : off = ![k, 0, 0]) : wM.view.setOn (halfR off h).toLoadRect.set ⊆ halfSet k := by
  rw [← half_set (h := h) k ho]
  refine ((View.set_slice wM.view (halfR off h)).symm.trans (View.set_reshape _ _).symm).subset

theorem slotR_emb {off : Fin 3 → ℕ} {h} (k : ℕ) (ho : off = ![k, 0, 0]) (x : S1x512x1024.Idx) (a : Fin 3) :
    ((slotR off h).emb x a).val = (if a = 0 then k else 0) + (x a).val := by
  subst ho; rw [rect3_emb]; fin_cases a <;> rfl

theorem read_slot {off : Fin 3 → ℕ} {h} (k : ℕ) (ho : off = ![k, 0, 0]) (v : S1x512x1024.Idx → Elt F .bf16) :
    eM.view.readAt (Elt F) (slotR off h).toLoadRect (spread v) = v := by
  funext x
  show spread v ((slotR off h).emb x) = v x
  unfold spread
  congr 1
  have h0 : (x 0).val < 1 := (x 0).isLt
  funext a; apply Fin.ext
  fin_cases a
  · show 0 = (x 0).val; omega
  · exact (slotR_emb (h := h) k ho x 1).trans (Nat.zero_add _)
  · exact (slotR_emb (h := h) k ho x 2).trans (Nat.zero_add _)

theorem read_half {off : Fin 3 → ℕ} {h} (k : ℕ) (ho : off = ![k, 0, 0]) (v : S1x1024x1024.Idx → Elt F .f32) :
    wM.view.readAt (Elt F) (halfR off h).toLoadRect (spreadW v) = v := by
  funext x
  show spreadW v ((halfR off h).emb x) = v x
  unfold spreadW
  congr 1
  have h0 : (x 0).val < 1 := (x 0).isLt
  subst ho
  funext a; apply Fin.ext
  fin_cases a
  · show 0 = (x 0).val; omega
  · exact (rect3_emb h x 1).trans (Nat.zero_add _)
  · exact (rect3_emb h x 2).trans (Nat.zero_add _)

theorem write_slot {off : Fin 3 → ℕ} {h} (k : ℕ) (ho : off = ![k, 0, 0]) (f : S16x512x1024.Idx → Elt F .bf16) (v : S1x512x1024.Idx → Elt F .bf16) :
    ∀ i ∈ slotSet k, (eM.access (slotR off h)).write (Elt F) f v Finset.univ i = spread v i := by
  intro i hi
  rw [← slotAcc_set (h := h) k ho] at hi
  obtain ⟨x, -, rfl⟩ := Finset.mem_map.mp hi
  rw [View.write_emb_of_mem _ _ (Finset.mem_univ x)]
  show v x = spread v ((slotR off h).emb x)
  exact congrFun (read_slot (h := h) k ho v).symm x

/-! ## Copies between pieces -/

/-- A slot copied into a slot. -/
theorem copy_slot {off off' : Fin 3 → ℕ} {h h'} (k k' : ℕ) (ho : off = ![k, 0, 0]) (ho' : off' = ![k', 0, 0])
    (fd : S16x512x1024.Idx → Elt F .bf16) (v : S1x512x1024.Idx → Elt F .bf16) :
    ∀ i ∈ slotSet k', (slotV off' h').view.write (Elt F) fd ((slotV off h).view.read (Elt F) (spread v)) Finset.univ i = spread v i := by
  intro i hi
  rw [← slot_set (h := h') k' ho'] at hi
  obtain ⟨x, -, rfl⟩ := Finset.mem_map.mp hi
  rw [View.write_emb_of_mem _ _ (Finset.mem_univ x)]
  show spread v ((slotV off h).view.emb x) = spread v ((slotV off' h').view.emb x)
  refine (congrArg (spread v) (slot_emb (h := h) k ho x)).trans (Eq.trans ?_ (congrArg (spread v) (slot_emb (h := h') k' ho' x)).symm)
  rfl

/-- A chunk of the weights copied into a half of the weight buffer. -/
theorem copy_chunk {off : Fin 2 → ℕ} {off' : Fin 3 → ℕ} {h h'} (p k : ℕ) (ho : off = ![0, p * 1024]) (ho' : off' = ![k, 0, 0])
    (fd : S2x1024x1024.Idx → Elt F .f32) (A : S1024x8192.Idx → Elt F .f32) :
    ∀ i ∈ halfSet k, (halfV off' h').view.write (Elt F) fd ((winV off h).view.read (Elt F) A) Finset.univ i = spreadW (chunk A p) i := by
  intro i hi
  rw [← half_set (h := h') k ho'] at hi
  obtain ⟨x, -, rfl⟩ := Finset.mem_map.mp hi
  rw [View.write_emb_of_mem _ _ (Finset.mem_univ x)]
  show A ((winV off h).view.emb x) = spreadW (chunk A p) ((halfV off' h').view.emb x)
  refine Eq.trans ?_ (congrArg (spreadW (chunk A p)) (half_emb (h := h') k ho' x)).symm
  unfold spreadW chunk
  have hp : p * 1024 + 1024 ≤ 8192 := by subst ho; have := h 1; simpa using this
  have h1 : (x 1).val < 1024 := (x 1).isLt
  congr 1
  funext a; apply Fin.ext
  fin_cases a
  · exact win_emb0 (h := h) p ho x
  · refine (win_emb1 (h := h) p ho x).trans ?_
    show p * 1024 + (x 1).val = (p * 1024 + (x 1).val) % 8192
    omega

/-- A slot copied into a column block of the result. -/
theorem copy_out {off : Fin 3 → ℕ} {off' : Fin 2 → ℕ} {h h'} (k p : ℕ) (ho : off = ![k, 0, 0]) (ho' : off' = ![0, p * 1024])
    (fd : S512x16384.Idx → Elt F .bf16) (v : S1x512x1024.Idx → Elt F .bf16) :
    ∀ i ∈ outSet p, (outV off' h').view.write (Elt F) fd ((slotV off h).view.read (Elt F) (spread v)) Finset.univ i = spreadO v i := by
  intro i hi
  rw [← out_set (h := h') p ho'] at hi
  obtain ⟨x, -, rfl⟩ := Finset.mem_map.mp hi
  rw [View.write_emb_of_mem _ _ (Finset.mem_univ x)]
  show spread v ((slotV off h).view.emb x) = spreadO v ((outV off' h').view.emb x)
  refine (congrArg (spread v) (slot_emb (h := h) k ho x)).trans ?_
  unfold spread spreadO
  have h1 : (x 1).val < 1024 := (x 1).isLt
  congr 1
  funext a; apply Fin.ext
  fin_cases a
  · rfl
  · exact (out_emb0 (h := h') p ho' x).symm
  · show (x 1).val = (((outV off' h').view.emb x : S512x16384.Idx) 1).val % 1024
    rw [out_emb1 (h := h') p ho' x]; omega

end Cert.KernelIdeal.Run
-- ==== Proof.Protocol.lean ====
/-
# The protocol between the eight devices

Device `4 x + 2 y + z` of the `2 × 2 × 2` mesh has three neighbours, one along each axis. The sixteen slots of a
device end up holding its own eight tiles (slots 0 to 7) and two tiles of each of the four devices of the other half of
the mesh along `x` (slots 8 to 15, slot `8 + 2 q + j` the tile `j` of that half's device `q = 2 y + z`).

* Barrier semaphore: each device signals its three neighbours once and waits for three. What a neighbour hands over
  with its signal is the slots it expects to be written by the signalled device: two along `x`, two along `y`, four
  along `z`.
* Sends along `x` (semaphores 3, 4 at the sender, 5, 6 at the receiver): tiles 0 and 1 to slots `8 + 2 q + j`.
* Sends along `y` (7, 8 and 9, 10): the two tiles received along `x`, to the same slots.
* Sends along `z` (11 to 14 and 15 to 18): the two tiles received along `x` and the two received along `y`, to the same
  slots.

A copy hands the receiver the whole slot with the tile in it, and the sender its share of the slot it copied from.
Every semaphore is used for one round. A device waits only while what it still owes is of a higher level: local copies
0, barrier 1, arrivals along `x` 2, along `y` 3, along `z` 4.
-/
module

public import proofs.«01_k».proof.Proof.Slots
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Rounds
public import Idealize.ShloMosaic.Lib.Transfers

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

/-- The rounds of the kernel's own cells, up to three duties a round. -/
abbrev UX : Type := Rounds.URounds (GSem nD τ sig) (Fin 3)
/-- The pipeline's rounds, the kernel's, and the counters of its local copies. -/
abbrev UU : Type := UR sig nD τ × (UX × Counters)

local notation "𝕄" => MT nD τ sig Unit (Elt F) ℕ UU ℕ

abbrev EP : Emb (UR sig nD τ) (MT nD τ sig Unit (Elt F) ℕ UU ℕ) := embL
def ER : Emb UX (MT nD τ sig Unit (Elt F) ℕ UU ℕ) := (Emb.inl : Emb UX (UX × Counters)).trans embR
abbrev EC : UEmb Counters (MT nD τ sig Unit (Elt F) ℕ UU ℕ) := countersEmb
omit [FloatOps F] in
instance ER_landsIn : (ER (F := F)).LandsIn (upEmb : UEmb _ 𝕄) := by unfold ER; infer_instance

abbrev 𝒱₀ : Variants := Variants.none

variable (m : (ℓ : Loc nD τ sig) → Buf (Elt F) ℓ)

/-! ## The mesh -/

/-- The neighbour along `x`. -/
def nX (c : Dev nD) : Dev nD := ⟨(c.val + 4) % 8, Nat.mod_lt _ (by decide)⟩
/-- The neighbour along `y`. -/
def nY (c : Dev nD) : Dev nD := ⟨(4 * (c.val / 4) + (c.val % 4 + 2) % 4) % 8, Nat.mod_lt _ (by decide)⟩
/-- The neighbour along `z`. -/
def nZ (c : Dev nD) : Dev nD := ⟨(2 * (c.val / 2) + (c.val % 2 + 1) % 2) % 8, Nat.mod_lt _ (by decide)⟩

theorem nX_nX (c : Dev nD) : nX (nX c) = c := by revert c; decide
theorem nY_nY (c : Dev nD) : nY (nY c) = c := by revert c; decide
theorem nZ_nZ (c : Dev nD) : nZ (nZ c) = c := by revert c; decide

/-- The device's place `2 y + z` in its half of the mesh. -/
def qx (c : Dev nD) : ℕ := c.val % 4
/-- Its `y` neighbour's place. -/
def qy (c : Dev nD) : ℕ := (c.val + 2) % 4

/-- The chunk of its weights a device computes `j`-th. -/
def perm (c : Dev nD) (j : ℕ) : ℕ := (2 * qx c + j) % 8

/-- The device of the other half of the mesh whose tile slot `k` of `c` receives. -/
def srcDev (c : Dev nD) (k : ℕ) : Dev nD := ⟨(4 * (1 - c.val / 4) + (k - 8) / 2) % 8, Nat.mod_lt _ (by decide)⟩

/-! ## Contents -/

/-- The activations as the kernel uses them. -/
def xv (c : Dev nD) : FVec F S512x1024 .bf16 := k0_pay1 (iblk m c 0 t0_0)
/-- The device's weights. -/
def wts (c : Dev nD) : S1024x8192.Idx → Elt F .f32 := m ((c : Thread nD τ).loc main_arg1)
/-- The chunk of weights used `j`-th. -/
def ch (c : Dev nD) (j : ℕ) : S1x1024x1024.Idx → Elt F .f32 := chunk (wts m c) (perm c j)
/-- The exponentials of the device's `j`-th chunk, and as the tile it stores. -/
def expOf (c : Dev nD) (j : ℕ) : FVec F S512x1024 .f32 := k0_pay3 (xv m c) (ch m c j)
def tileOf (c : Dev nD) (j : ℕ) : S1x512x1024.Idx → Elt F .bf16 := k0_pay4 (xv m c) (ch m c j)
/-- What slot `k` holds once it is filled. -/
def E (c : Dev nD) (k : ℕ) : S1x512x1024.Idx → Elt F .bf16 :=
  if k < 8 then tileOf m c k else tileOf m (srcDev c k) ((k - 8) % 2)

theorem srcDev_nY (c : Dev nD) (k : ℕ) : srcDev (nY c) k = srcDev c k := by
  have h : (nY c).val / 4 = c.val / 4 := by revert c; decide
  unfold srcDev; simp only [h]
theorem srcDev_nZ (c : Dev nD) (k : ℕ) : srcDev (nZ c) k = srcDev c k := by
  have h : (nZ c).val / 4 = c.val / 4 := by revert c; decide
  unfold srcDev; simp only [h]
theorem E_nY (c : Dev nD) (k : ℕ) (hk : 8 ≤ k) : E m (nY c) k = E m c k := by
  unfold E; rw [if_neg (by omega), if_neg (by omega), srcDev_nY]
theorem E_nZ (c : Dev nD) (k : ℕ) (hk : 8 ≤ k) : E m (nZ c) k = E m c k := by
  unfold E; rw [if_neg (by omega), if_neg (by omega), srcDev_nZ]
theorem srcDev_nX (c : Dev nD) (j : Fin 2) : srcDev (nX c) (8 + 2 * qx c + j.val) = c := by revert c j; decide
theorem E_nX (c : Dev nD) (j : ℕ) (hj : j < 2) : E m (nX c) (8 + 2 * qx c + j) = E m c j := by
  unfold E; rw [if_neg (by omega), if_pos (by omega), srcDev_nX c ⟨j, hj⟩]
  congr 1; omega

/-- Slot `k` of device `c`, at share `q`, holding `f`. -/
def slotPts (c : Dev nD) (k : ℕ) (q : PosShare TreeShare) (f : S16x512x1024.Idx → Elt F .bf16) : sProp 𝕄 :=
  (((c : Thread nD τ).loc cc0_scratch0) ↦[slotSet k]{q} f)
/-- Slot `k` of device `c`, at share `q`, holding the tile it is filled with. -/
abbrev slotE (c : Dev nD) (k : ℕ) (q : PosShare TreeShare) : sProp 𝕄 := slotPts c k q (spread (E m c k))

omit [FloatOps F] in
instance slotPts_storable (c : Dev nD) (k : ℕ) (q : PosShare TreeShare) (f) : BI.Storable (upEmb : UEmb _ 𝕄) (slotPts (F := F) c k q f) := by
  unfold slotPts; infer_instance

/-! ## The schedule -/

/-- The slot a remote copy's semaphore is about. -/
def slotOf (c : Dev nD) (q : ℕ) : ℕ :=
  if q < 5 then q - 3 else if q < 9 then 8 + 2 * qx c + (q - 5) % 2 else if q < 11 then 8 + 2 * qy c + (q - 9)
  else if q < 15 then 8 + 4 * ((q - 11) / 2) + 2 * (c.val % 2) + (q - 11) % 2
  else 8 + 4 * ((q - 15) / 2) + 2 * (1 - c.val % 2) + (q - 15) % 2

/-- The share of that slot a landing hands back. -/
def shareOf (q : ℕ) : PosShare TreeShare :=
  if q = 7 ∨ q = 8 then fullShare.right.left else if 11 ≤ q ∧ q < 15 then fullShare.left else fullShare

/-- The semaphores of remote copies. -/
abbrev Far (q : ℕ) : Prop := 3 ≤ q ∧ q ≤ 18

/-- A slot of `p` open to be written: the one its arrival semaphore `q` is about. -/
def zone (p : Dev nD) (q : ℕ) : sProp 𝕄 := iprop(∃ f, slotPts p (slotOf p q) fullShare f)

/-- What the three signals of its barrier semaphore hand device `c`. -/
def barPay (c : Dev nD) (d : Fin 3) : sProp 𝕄 :=
  match d with
  | 0 => iprop(zone (nX c) 5 ∗ zone (nX c) 6)
  | 1 => iprop(zone (nY c) 9 ∗ zone (nY c) 10)
  | 2 => iprop(zone (nZ c) 15 ∗ zone (nZ c) 16 ∗ zone (nZ c) 17 ∗ zone (nZ c) 18)

/-- What a landing on semaphore `q` hands device `c`. -/
def farPay (c : Dev nD) (q : ℕ) : sProp 𝕄 := slotE m c (slotOf c q) (shareOf q)

/-- The barrier semaphore. -/
abbrev barS : Sem sig := (SemArray.scalar (sig.barrier 0 rfl) : Sems sig S_).sem
abbrev barCell (c : Dev nD) : GSem nD τ sig := ((c : Thread nD τ), .reg barS)
abbrev farCell (c : Dev nD) (q : DmaSem sig) : GSem nD τ sig := ((c : Thread nD τ), .dma q)

/-- The credit of one tile's copy. -/
abbrev N : ℕ := (slotV ![0, 0, 0] inb_S16x512x1024_S1x512x1024_0_0_0).view.dmaCredit
theorem N_pos : 0 < N := View.dmaCredit_pos _ (by decide)

def Rd : Rounds.Schedule (GSem nD τ sig) (Fin 3) 𝕄 where
  duties g r := if r = 0 ∧ g.1.2 = .tc then (match g.2 with | .reg _ => Finset.univ | .dma q => if Far q.val then {0} else ∅) else ∅
  unitless _ := False
  amount g _ _ := match g.2 with | .reg _ => 1 | .dma _ => N
  payload g _ d := match g.2 with | .reg _ => barPay g.1.1 d | .dma q => farPay m g.1.1 q.val
  amount_pos g _ _ _ := by
    rcases g with ⟨t, s⟩
    cases s
    · exact Nat.one_pos
    · exact N_pos

omit [FloatOps F] in
instance zone_storable (p : Dev nD) (q : ℕ) : BI.Storable (upEmb : UEmb _ 𝕄) (zone (F := F) p q) := by unfold zone; infer_instance
omit [FloatOps F] in
instance barPay_storable (c : Dev nD) (d : Fin 3) : BI.Storable (upEmb : UEmb _ 𝕄) (barPay (F := F) c d) := by
  unfold barPay; split <;> infer_instance
instance Rd_payload_storable (g : GSem nD τ sig) (r : ℕ) (d : Fin 3) : BI.Storable (upEmb : UEmb _ 𝕄) ((Rd m).payload g r d) := by
  rcases g with ⟨t, s⟩
  cases s
  · exact barPay_storable t.1 d
  · unfold Rd farPay; infer_instance

section Sched
variable (c : Dev nD) (q : DmaSem sig)

theorem duties_bar : (Rd m).duties (barCell c) 0 = Finset.univ := rfl
theorem duties_far (h : Far q.val) : (Rd m).duties (farCell c q) 0 = {0} := if_pos h
theorem duties_later (g : GSem nD τ sig) : ∀ r, 1 ≤ r → (Rd m).duties g r = ∅ := fun r hr => by
  dsimp only [Rd]; exact if_neg fun h => by omega
theorem amount_bar (d : Fin 3) : (Rd m).amount (barCell c) 0 d = 1 := rfl
theorem amount_far (d : Fin 3) : (Rd m).amount (farCell c q) 0 d = N := rfl
theorem expect_bar : (Rd m).expect (barCell c) 0 = 3 := by
  unfold Schedule.expect Schedule.amountOf; rw [duties_bar]; rfl
theorem expect_far (h : Far q.val) : (Rd m).expect (farCell c q) 0 = N := by
  unfold Schedule.expect Schedule.amountOf; rw [duties_far m c q h, Finset.sum_singleton, amount_far]
theorem payload_bar (d : Fin 3) : (Rd m).payload (barCell c) 0 d = barPay c d := rfl
theorem payload_far (d : Fin 3) : (Rd m).payload (farCell c q) 0 d = farPay m c q.val := rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
theorem rest_bar : bigSep ((Rd m).duties (barCell c) 0 \ ∅) (fun d => (Rd m).payload (barCell c) 0 d) = iprop(barPay c 0 ∗ barPay c 1 ∗ barPay c 2) := by
  rw [Finset.sdiff_empty, duties_bar, bigSep_fin3]; rfl
theorem rest_far (h : Far q.val) : bigSep ((Rd m).duties (farCell c q) 0 \ ∅) (fun d => (Rd m).payload (farCell c q) 0 d) = farPay m c q.val := by
  rw [Finset.sdiff_empty, duties_far m c q h, bigSep_singleton, payload_far]

end Sched

/-! ## Levels, and what is owed -/

def L (g : GSem nD τ sig) : Finset Unit := if g.1.2 = .tc then {()} else ∅
/-- The level of a semaphore. -/
def lvS : SemLoc sig → ℕ
  | .reg _ => 1
  | .dma q => if q.val = 5 ∨ q.val = 6 then 2 else if q.val = 9 ∨ q.val = 10 then 3 else if 15 ≤ q.val ∧ q.val ≤ 18 then 4 else 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

/-- What is owed, as a list of cells and amounts, the first to be paid first. -/
def due : List ((Dev nD × SemLoc sig) × ℕ) → CellTallies nD τ sig Unit
  | [] => 0
  | a :: l => due l + tallyAt ((a.1.1 : Thread nD τ), a.1.2) () a.2

theorem due_pos {l : List ((Dev nD × SemLoc sig) × ℕ)} {g : GSem nD τ sig} {u : Unit} (h : 0 < due l g u) :
    ∃ a ∈ l, g = ((a.1.1 : Thread nD τ), a.1.2) := by
  induction l with
  | nil => exact absurd h (Nat.lt_irrefl 0)
  | cons a l ih =>
    unfold due at h
    rw [Pi.add_apply, Finsupp.add_apply, tallyAt_apply] at h
    by_cases hg : g = ((a.1.1 : Thread nD τ), a.1.2) ∧ u = ()
    · exact ⟨a, List.mem_cons_self, hg.1⟩
    · rw [if_neg hg, Nat.add_zero] at h
      obtain ⟨b, hb, e⟩ := ih h
      exact ⟨b, List.mem_cons_of_mem _ hb, e⟩

omit [FloatOps F] in
/-- A device may wait on a semaphore below everything it owes. -/
theorem mayWait (c : Dev nD) (sm : SemLoc sig) (l : List ((Dev nD × SemLoc sig) × ℕ)) (h : ∀ a ∈ l, lvS sm < lvS a.1.2) :
    (levAts L lv : sProp 𝕄) ⊢ MayWait (c : Thread nD τ) sm () (due l) :=
  MayOwe.of_cut (L := L) (lev := lv) (lvS sm) (fun p hp => by rw [Finset.mem_singleton.mp hp, L_tc]; exact Finset.mem_singleton_self _)
    (fun g u hg => by obtain ⟨a, -, rfl⟩ := due_pos hg; rw [L_tc]; exact Finset.mem_singleton_self _)
    (fun p hp => by rw [Finset.mem_singleton.mp hp]; exact le_refl (lvS sm))
    (fun g u hg => by obtain ⟨a, ha, rfl⟩ := due_pos hg; exact h a ha)

/-- What a device still owes, recorded with any waits. -/
def ow (c : Dev nD) (l : List ((Dev nD × SemLoc sig) × ℕ)) : sProp 𝕄 := iprop(∃ W, owes (c : Thread nD τ) (due l) W)

end Cert.KernelIdeal.Run
-- ==== Proof.Steps.lean ====
/-
# One rule per kind of step

Each lemma steps over one operation of the kernel as it is printed, stated over the pieces of memory and the protocol's
resources: a remote copy, the wait for one, a signal, the barrier wait, a local copy of weights and the wait for it, a
local copy of a finished tile to the result and the wait for it, loads and stores of slots.
-/
module

public import proofs.«01_k».proof.Proof.Protocol
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's program on device `c`, run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- The seventeen semaphores of the protocol: the barrier and those of remote copies. -/
abbrev ksem (i : Fin 17) : SemLoc sig := if i = 0 then .reg barS else .dma ⟨i.val + 2, by have := i.isLt; revert this; generalize i.val = v; intro h; show v + 2 < 35; omega⟩
abbrev kcell (ck : Dev nD × Fin 17) : GSem nD τ sig := ((ck.1 : Thread nD τ), ksem ck.2)

/-- Every cell's invariant, and that every cell has reached its round. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)
instance records_persistent (K : Dev nD × Fin 17 → ℕ) : BI.Persistent (records m K) := by unfold records; infer_instance

/-- The place of a remote copy's semaphore among the seventeen. -/
def farIx (q : DmaSem sig) (h : Far q.val) : Fin 17 := ⟨q.val - 2, by have := h.2; omega⟩
theorem ksem_far (q : DmaSem sig) (h : Far q.val) : ksem (farIx q h) = .dma q := by
  have hne : farIx q h ≠ 0 := fun e => by have := congrArg Fin.val e; simp only [farIx, Fin.val_zero] at this; have := h.1; omega
  unfold ksem
  rw [if_neg hne]
  exact congrArg SemLoc.dma (Fin.ext (by have := h.1; simp only [farIx]; omega))

variable (K : Dev nD × Fin 17 → ℕ) (c : Dev nD)

theorem inv_at (ck : Dev nD × Fin 17) :
    (bigSep Finset.univ fun ck : Dev nD × Fin 17 => (cellInv ER (Rd m) (K ck) (kcell ck) : sProp 𝕄)) ⊢ cellInv ER (Rd m) (K ck) (kcell ck) :=
  bigSep_elim (Finset.mem_univ ck)
theorem rea_at (ck : Dev nD × Fin 17) :
    (bigSep Finset.univ fun ck : Dev nD × Fin 17 => (reached ER (kcell ck) 0 : sProp 𝕄)) ⊢ reached ER (kcell ck) 0 :=
  bigSep_elim (Finset.mem_univ ck)
theorem inv_bar : records m K ⊢ cellInv ER (Rd m) (K (c, 0)) (barCell c) := by
  unfold records
  iintro ⟨H, -⟩
  iapply (inv_at m K (c, 0)); iexact H
theorem rea_bar : records m K ⊢ reached ER (barCell c) 0 := by
  unfold records
  iintro ⟨-, H⟩
  iapply (rea_at (F := F) (c, 0)); iexact H
theorem kcell_far (q : DmaSem sig) (h : Far q.val) : kcell (c, farIx q h) = farCell c q := congrArg (Prod.mk (c : Thread nD τ)) (ksem_far q h)
theorem inv_far (q : DmaSem sig) (h : Far q.val) : records m K ⊢ cellInv ER (Rd m) (K (c, farIx q h)) (farCell c q) := by
  rw [← kcell_far c q h]
  unfold records
  iintro ⟨H, -⟩
  iapply (inv_at m K (c, farIx q h)); iexact H
theorem rea_far (q : DmaSem sig) (h : Far q.val) : records m K ⊢ reached ER (farCell c q) 0 := by
  rw [← kcell_far c q h]
  unfold records
  iintro ⟨-, H⟩
  iapply (rea_at (F := F) (c, farIx q h)); iexact H

/-! ## Remote steps -/

section Remote

variable {α : Type} {Q : α → sProp (MT nD τ sig Unit (Elt F) ℕ UU ℕ)} {k : PUnit → Prog (TpuEff nD τ sig (Elt F) Λ₀ .tc) α}

/-- A signal to a neighbour's barrier, handing over `barPay`. -/
theorem step_signal (n c' : Dev nD) (d : Fin 3) (l : List ((Dev nD × SemLoc sig) × ℕ)) (hn : n = c') {sem : Sem sig} (hs : sem = barS) {w : ℕ} (hw : w = 1) :
    iprop(records m K ∗ ow c (((c', .reg barS), 1) :: l) ∗ dutyTok ER (barCell c') 0 d ∗ barPay c' d)
      ⊢ iprop((ow c l -∗ WP c (k ⟨⟩) Q) -∗ WP c (.op (.semSignal (n : Thread nD τ) sem w) k) Q) := by
  subst hn; subst hs; subst hw
  unfold ow
  iintro ⟨#HR, ⟨%W, HO⟩, Ht, Hp⟩ Hk
  iapply (Rounds.wp_signal 𝒱₀ ER (Rd m) (c : Thread nD τ) none (dst := (n : Thread nD τ)) (κ := K (n, 0))
      (by rw [duties_bar]; exact Finset.mem_univ d) (amount_bar m n d) () (due l) rfl) $$ [HO Ht Hp]
  · isplitr; · iapply (inv_bar m K n); iexact HR
    isplitl [HO]; · iexact HO
    isplitl [Ht]; · iexact Ht
    isplitl [Hp]; · rw [payload_bar]; iexact Hp
    iapply (rea_bar m K n); iexact HR
  iintro HO
  iapply Hk
  iexists W; iexact HO

/-- The barrier wait. -/
theorem step_barrier (l : List ((Dev nD × SemLoc sig) × ℕ)) (hl : ∀ a ∈ l, 1 < lvS a.1.2) {sem : Sem sig} (hs : sem = barS) {w : ℕ} (hw : w = 3) :
    iprop(records m K ∗ cred (tallyAt (barCell c) () 3) ∗ ow c l ∗ levAts L lv ∗ atPos ER (barCell c) 0 ∅ 0)
      ⊢ iprop((iprop(ow c l ∗ atPos ER (barCell c) 1 ∅ 0 ∗ barPay c 0 ∗ barPay c 1 ∗ barPay c 2) -∗ WP c (k ⟨⟩) Q)
          -∗ WP c (.op (.semWait sem w) k) Q) := by
  subst hs; subst hw
  unfold ow
  iintro ⟨#HR, Hc, ⟨%W, HO⟩, Hlev, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := due l) (W := W) (R := 0) (m := 0) (T := ∅)
      (by rw [expect_bar])) $$ [Hc HO Hat Hlev]
  · isplitr; · iapply (inv_bar m K c); iexact HR
    isplitl [Hc]; · iexact Hc
    isplitl [HO]; · iexact HO
    isplitl [Hlev]; · iapply (mayWait c (.reg barS) l hl); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- A remote copy of one slot: the sender's share goes with it, the receiver's slot is the one its arrival semaphore is about. -/
theorem step_send (n c' : Dev nD) (q₁ q₂ : DmaSem sig) (h₁ : Far q₁.val) (h₂ : Far q₂.val) (l : List ((Dev nD × SemLoc sig) × ℕ))
    (k₁ : ℕ) (sh : PosShare TreeShare) (hk₁ : slotOf c q₁.val = k₁) (hsh₁ : shareOf q₁.val = sh)
    (hsh : shareOf q₂.val = fullShare) (hE : E m c' (slotOf c' q₂.val) = E m c k₁)
    {off₁ off₂ : Fin 3 → ℕ} {i₁ i₂} (ho₁ : off₁ = ![k₁, 0, 0]) (ho₂ : off₂ = ![slotOf c' q₂.val, 0, 0])
    {s₁ s₂ : DmaSem sig} (hs₁ : s₁ = q₁) (hs₂ : s₂ = q₂) (hn : n = c')
    {hsc : (slotV off₂ i₂ : Memref sig (Dev.tc n : Thread nD τ).2.kind .vmem S512x1024 .bf16).view.ref.isScScratch = false}
    {hsrc : (slotV off₁ i₁).view.WordExact} {hdst : (slotV off₂ i₂).view.WordExact}
    {hsem : DmaTarget.Typed .vmem (.dma s₂) (.remote (Dev.tc n : Thread nD τ) (slotV off₂ i₂) (.dma s₁) hsc)} :
    iprop(records m K ∗ slotE m c k₁ sh ∗ zone c' q₂.val ∗ ow c (((c', .dma q₂), N) :: l)
        ∗ dutyTok ER (farCell c q₁) 0 0 ∗ dutyTok ER (farCell c' q₂) 0 0)
      ⊢ iprop((iprop(cred (tallyAt (farCell c q₁) () N) ∗ ow c l) -∗ WP c (k ⟨⟩) Q)
          -∗ WP c (.op (.enqueueDma (slotV off₁ i₁) (.remote (Dev.tc n : Thread nD τ) (slotV off₂ i₂) (.dma s₁) hsc) (.dma s₂) hsrc hdst hsem) k) Q) := by
  subst hn; subst hs₁; subst hs₂; subst hk₁; subst hsh₁
  unfold ow zone slotE slotPts
  iintro ⟨#HR, Hs, ⟨%fd, Hd⟩, ⟨%W, HO⟩, Ht₁, Ht₂⟩ Hk
  iapply (Rounds.wp_send_pointsTo 𝒱₀ ER (Rd m) (c : Thread nD τ) none (c' := (n : Thread nD τ)) (src := slotV off₁ i₁) (dst := slotV off₂ i₂)
      (κ₁ := K (c, farIx s₁ h₁)) (κ₂ := K (n, farIx s₂ h₂)) (q := shareOf s₁.val) (fs := spread (E m c (slotOf c s₁.val)))
      (r₁ := 0) (r₂ := 0) (d₁ := 0) (d₂ := 0) (fd := fd)
      (by rw [duties_far m c s₁ h₁]; exact Finset.mem_singleton_self _) (by rw [duties_far m n s₂ h₂]; exact Finset.mem_singleton_self _)
      () () N rfl (amount_far m c s₁ 0) (amount_far m n s₂ 0) (due l) rfl (W := W)
      (by rw [payload_far, slot_set _ ho₁]; exact BI.Entails.refl _)
      (by
        rw [payload_far, slot_set _ ho₂]
        unfold farPay slotE slotPts
        rw [hsh, hE]
        exact Entails.of_eq (pointsTo_congr (copy_slot _ _ ho₁ ho₂ fd _)))) $$ [Hs Hd HO Ht₁ Ht₂]
  · isplitr; · iapply (inv_far m K c s₁ h₁); iexact HR
    isplitr; · iapply (inv_far m K n s₂ h₂); iexact HR
    isplitl [Hs]; · rw [slot_set _ ho₁]; iexact Hs
    isplitl [Hd]; · rw [slot_set _ ho₂]; iexact Hd
    isplitl [HO]; · iexact HO
    isplitl [Ht₁]; · iexact Ht₁
    isplitr; · iapply (rea_far m K c s₁ h₁); iexact HR
    isplitl [Ht₂]; · iexact Ht₂
    iapply (rea_far m K n s₂ h₂); iexact HR
  iintro ⟨Hc, HO⟩
  iapply Hk
  isplitl [Hc]; · iexact Hc
  iexists W; iexact HO

/-- The wait for a remote copy. -/
theorem step_wait (q : DmaSem sig) (h : Far q.val) (l : List ((Dev nD × SemLoc sig) × ℕ)) (hl : ∀ a ∈ l, lvS (.dma q) < lvS a.1.2)
    (k₁ : ℕ) (sh : PosShare TreeShare) (hk₁ : slotOf c q.val = k₁) (hsh₁ : shareOf q.val = sh)
    {s : DmaSem sig} (hs : s = q) {sp' : Space} {s₀ : Shape} {e₀ : EltTy} {srcw : Memref sig .tc sp' s₀ e₀} {off : Fin 3 → ℕ} {hh}
    {hsrc : srcw.view.WordExact} {hdst : (slotV off hh).view.WordExact} :
    iprop(records m K ∗ cred (tallyAt (farCell c q) () N) ∗ ow c l ∗ levAts L lv ∗ atPos ER (farCell c q) 0 ∅ 0)
      ⊢ iprop((iprop(ow c l ∗ atPos ER (farCell c q) 1 ∅ 0 ∗ slotE m c k₁ sh) -∗ WP c (k ⟨⟩) Q)
          -∗ WP c (.op (.waitDma2 s srcw (slotV off hh) hsrc hdst) k) Q) := by
  subst hs; subst hk₁; subst hsh₁
  unfold ow
  iintro ⟨#HR, Hc, ⟨%W, HO⟩, Hlev, Hat⟩ Hk
  iapply (Rounds.wp_wait_rest_token 𝒱₀ ER (Rd m) (c : Thread nD τ) none (κ := K (c, farIx s h)) (k' := N)
      (wpE_waitDma2_eq 𝒱₀ (c : Thread nD τ) none Set.univ (dst := slotV off hh)) (Set.mem_univ _) () (O := due l) (W := W) (R := 0) (m := 0) (T := ∅)
      (by rw [expect_far m c s h, Nat.zero_add])) $$ [Hc HO Hat Hlev]
  · isplitr; · iapply (inv_far m K c s h); iexact HR
    isplitl [Hc]; · iexact Hc
    isplitl [HO]; · iexact HO
    isplitl [Hlev]; · iapply (mayWait c (.dma s) l hl); iexact Hlev
    iexact Hat
  iintro ⟨HO, Hat, -, Hpay⟩
  ihave Hp := (Entails.of_eq (rest_far m c s h)) $$ Hpay
  unfold farPay
  iapply Hk
  isplitl [HO]; · iexists _; iexact HO
  isplitl [Hat]; · iexact Hat
  iexact Hp

end Remote

/-! ## Local copies -/

/-- Block `p` of the device's weights; half `b` of the weight buffer; block `p` of the result. -/
def winPts (p : ℕ) : sProp 𝕄 := (((c : Thread nD τ).loc main_arg1) ↦[winSet p]{fullShare} wts m c)
def halfPts (b : ℕ) (f : S2x1024x1024.Idx → Elt F .f32) : sProp 𝕄 := (((c : Thread nD τ).loc cc0_scratch1) ↦[halfSet b]{fullShare} f)
def outPts (p : ℕ) (f : S512x16384.Idx → Elt F .bf16) : sProp 𝕄 := (((c : Thread nD τ).loc main_v1) ↦[outSet p]{fullShare} f)

/-- The credit of a weight chunk's copy. -/
abbrev NW : ℕ := (halfV ![0, 0, 0] inb_S2x1024x1024_S1x1024x1024_0_0_0).view.dmaCredit
theorem NW_pos : 0 < NW := View.dmaCredit_pos _ (by decide)

/-- A weight chunk on its way into half `b`. -/
def wFly (s : DmaSem sig) (b p : ℕ) : sProp 𝕄 :=
  Transfers.Flight EC (c : Thread nD τ) (.dma s) () NW iprop(halfPts c b (spreadW (chunk (wts m c) p)) ∗ winPts m c p)

section Local

variable {α : Type} {Q : α → sProp (MT nD τ sig Unit (Elt F) ℕ UU ℕ)} {k : PUnit → Prog (TpuEff nD τ sig (Elt F) Λ₀ .tc) α}

theorem step_wcopy (q : DmaSem sig) (b p : ℕ) (fd : S2x1024x1024.Idx → Elt F .f32) {off : Fin 2 → ℕ} {off' : Fin 3 → ℕ} {h h'}
    (ho : off = ![0, p * 1024]) (ho' : off' = ![b, 0, 0]) {s : DmaSem sig} (hs : s = q)
    {hsrc : (winV off h).view.WordExact} {hdst : (halfV off' h').view.WordExact}
    {hsem : DmaTarget.Typed .hbm (.dma s) (.here (halfV off' h') : DmaTarget nD τ sig .tc .vmem S1024x1024 .f32)} :
    iprop(winPts m c p ∗ halfPts c b fd ∗ semVal ((c : Thread nD τ), .dma q) 0)
      ⊢ iprop((wFly m c q b p -∗ WP c (k ⟨⟩) Q) -∗ WP c (.op (.enqueueDma (winV off h) (.here (halfV off' h')) (.dma s) hsrc hdst hsem) k) Q) := by
  subst hs
  unfold winPts halfPts wFly winPts halfPts
  iintro ⟨Hs, Hd, Hv⟩ Hk
  iapply (Transfers.wp_dmaLocal EC 𝒱₀ (c : Thread nD τ) none (src := winV off h) (dst := halfV off' h') (q := fullShare) (fs := wts m c) (Sd := halfSet b) (fd := fd)
      () NW rfl NW_pos (half_set _ ho').subset) $$ [Hs Hd Hv]
  · isplitl [Hs]; · rw [win_set _ ho]; iexact Hs
    isplitl [Hd]; · iexact Hd
    iexact Hv
  rw [win_set _ ho]
  iintro HF
  iapply Hk
  have e := pointsTo_congr (Ix := Unit) (Name := ℕ) (U := UU) (Lvl := ℕ) (ℓ := (c : Thread nD τ).loc cc0_scratch1) (q := fullShare)
    (copy_chunk (h := h) (h' := h') p b ho ho' fd (wts m c))
  rw [← e]
  iexact HF

theorem step_wwait (q : DmaSem sig) (b p : ℕ) (l : List ((Dev nD × SemLoc sig) × ℕ)) (hl : ∀ a ∈ l, lvS (.dma q) < lvS a.1.2)
    {s : DmaSem sig} (hs : s = q) {sp' : Space} {s₀ : Shape} {e₀ : EltTy} {srcw : Memref sig .tc sp' s₀ e₀} {off : Fin 3 → ℕ} {hh}
    {hsrc : srcw.view.WordExact} {hdst : (halfV off hh).view.WordExact} :
    iprop(wFly m c q b p ∗ ow c l ∗ levAts L lv)
      ⊢ iprop((iprop(halfPts c b (spreadW (chunk (wts m c) p)) ∗ winPts m c p ∗ semVal ((c : Thread nD τ), .dma q) 0 ∗ ow c l) -∗ WP c (k ⟨⟩) Q)
          -∗ WP c (.op (.waitDma2 s srcw (halfV off hh) hsrc hdst) k) Q) := by
  subst hs
  unfold wFly ow
  iintro ⟨HF, ⟨%W, HO⟩, Hlev⟩ Hk
  iapply (Transfers.wp_waitLocalO EC 𝒱₀ (c : Thread nD τ) none () (rfl : (halfV off hh).view.dmaCredit = NW) (O := due l) (W := W)) $$ [HF HO Hlev]
  · isplitl [HF]; · iexact HF
    isplitl [HO]; · iexact HO
    iapply (mayWait c (.dma s) l hl); iexact Hlev
  iintro ⟨⟨Hh, Hw⟩, Hv, HO⟩
  iapply Hk
  isplitl [Hh]; · iexact Hh
  isplitl [Hw]; · iexact Hw
  isplitl [Hv]; · iexact Hv
  iexists _; iexact HO

/-- A finished tile on its way from slot `k'` to block `p` of the result. -/
def oFly (s : DmaSem sig) (k' p : ℕ) (v : S1x512x1024.Idx → Elt F .bf16) : sProp 𝕄 :=
  Transfers.Flight EC (c : Thread nD τ) (.dma s) () N iprop(outPts c p (spreadO v) ∗ slotPts c k' fullShare (spread v))

theorem step_ocopy (q : DmaSem sig) (k' p : ℕ) (v : S1x512x1024.Idx → Elt F .bf16) (fd : S512x16384.Idx → Elt F .bf16)
    {off : Fin 3 → ℕ} {off' : Fin 2 → ℕ} {h h'}
    (ho : off = ![k', 0, 0]) (ho' : off' = ![0, p * 1024]) {s : DmaSem sig} (hs : s = q)
    {hsrc : (slotV off h).view.WordExact} {hdst : (outV off' h').view.WordExact}
    {hsem : DmaTarget.Typed .vmem (.dma s) (.here (outV off' h') : DmaTarget nD τ sig .tc .hbm S512x1024 .bf16)} :
    iprop(slotPts c k' fullShare (spread v) ∗ outPts c p fd ∗ semVal ((c : Thread nD τ), .dma q) 0)
      ⊢ iprop((oFly c q k' p v -∗ WP c (k ⟨⟩) Q) -∗ WP c (.op (.enqueueDma (slotV off h) (.here (outV off' h')) (.dma s) hsrc hdst hsem) k) Q) := by
  subst hs
  unfold oFly outPts slotPts
  iintro ⟨Hs, Hd, Hv⟩ Hk
  iapply (Transfers.wp_dmaLocal EC 𝒱₀ (c : Thread nD τ) none (src := slotV off h) (dst := outV off' h') (q := fullShare) (fs := spread v) (Sd := outSet p) (fd := fd)
      () N rfl N_pos (out_set _ ho').subset) $$ [Hs Hd Hv]
  · isplitl [Hs]; · rw [slot_set _ ho]; iexact Hs
    isplitl [Hd]; · iexact Hd
    iexact Hv
  rw [slot_set _ ho]
  iintro HF
  iapply Hk
  have e := pointsTo_congr (Ix := Unit) (Name := ℕ) (U := UU) (Lvl := ℕ) (ℓ := (c : Thread nD τ).loc main_v1) (q := fullShare)
    (copy_out (h := h) (h' := h') k' p ho ho' fd v)
  rw [← e]
  iexact HF

theorem step_owait (q : DmaSem sig) (k' p : ℕ) (v : S1x512x1024.Idx → Elt F .bf16)
    {s : DmaSem sig} (hs : s = q) {sp' : Space} {s₀ : Shape} {e₀ : EltTy} {srcw : Memref sig .tc sp' s₀ e₀} {off : Fin 2 → ℕ} {hh}
    {hsrc : srcw.view.WordExact} {hdst : (outV off hh).view.WordExact} :
    iprop(oFly c q k' p v ∗ ow c [] ∗ levAts L lv)
      ⊢ iprop((iprop(outPts c p (spreadO v) ∗ slotPts c k' fullShare (spread v) ∗ semVal ((c : Thread nD τ), .dma q) 0 ∗ ow c []) -∗ WP c (k ⟨⟩) Q)
          -∗ WP c (.op (.waitDma2 s srcw (outV off hh) hsrc hdst) k) Q) := by
  subst hs
  unfold oFly ow
  iintro ⟨HF, ⟨%W, HO⟩, Hlev⟩ Hk
  iapply (Transfers.wp_waitLocalO EC 𝒱₀ (c : Thread nD τ) none () (rfl : (outV off hh).view.dmaCredit = N) (O := due []) (W := W)) $$ [HF HO Hlev]
  · isplitl [HF]; · iexact HF
    isplitl [HO]; · iexact HO
    iapply (mayWait c (.dma s) [] (fun a ha => absurd ha (List.not_mem_nil))); iexact Hlev
  iintro ⟨⟨Hh, Hw⟩, Hv, HO⟩
  iapply Hk
  isplitl [Hh]; · iexact Hh
  isplitl [Hw]; · iexact Hw
  isplitl [Hv]; · iexact Hv
  iexists _; iexact HO

end Local

/-! ## Loads and stores -/

section Mem

variable {α : Type} {Q : α → sProp (MT nD τ sig Unit (Elt F) ℕ UU ℕ)}

theorem step_load {k : (S1x512x1024.Idx → Elt F .bf16) → Prog (TpuEff nD τ sig (Elt F) Λ₀ .tc) α} (k' : ℕ) (q : PosShare TreeShare) (v : S1x512x1024.Idx → Elt F .bf16)
    {off : Fin 3 → ℕ} {h} (ho : off = ![k', 0, 0]) {hl} :
    slotPts c k' q (spread v) ⊢ iprop((slotPts c k' q (spread v) -∗ WP c (k v) Q) -∗ WP c (.op (.load eM (slotR off h).toLoadRect hl) k) Q) := by
  unfold slotPts
  iintro H Hk
  iapply (wp_load 𝒱₀ (c : Thread nD τ) none Set.univ (m := eM) (r := (slotR off h).toLoadRect) (slotL_sub (h := h) k' ho)) $$ H
  rw [read_slot k' ho]
  iexact Hk

/-- A load whose value is not used. -/
theorem step_load_any {k : (S1x512x1024.Idx → Elt F .bf16) → Prog (TpuEff nD τ sig (Elt F) Λ₀ .tc) α} (k' : ℕ) (q : PosShare TreeShare) (f : S16x512x1024.Idx → Elt F .bf16)
    {off : Fin 3 → ℕ} {h} (ho : off = ![k', 0, 0]) {hl} :
    slotPts c k' q f ⊢ iprop((∀ v, slotPts c k' q f -∗ WP c (k v) Q) -∗ WP c (.op (.load eM (slotR off h).toLoadRect hl) k) Q) := by
  unfold slotPts
  iintro H Hk
  iapply (wp_load 𝒱₀ (c : Thread nD τ) none Set.univ (m := eM) (r := (slotR off h).toLoadRect) (slotL_sub (h := h) k' ho)) $$ H
  iintro H
  iapply Hk $$ %_ H

theorem step_loadW {k : (S1x1024x1024.Idx → Elt F .f32) → Prog (TpuEff nD τ sig (Elt F) Λ₀ .tc) α} (b : ℕ) (v : S1x1024x1024.Idx → Elt F .f32)
    {off : Fin 3 → ℕ} {h} (ho : off = ![b, 0, 0]) {hl} :
    halfPts c b (spreadW v) ⊢ iprop((halfPts c b (spreadW v) -∗ WP c (k v) Q) -∗ WP c (.op (.load wM (halfR off h).toLoadRect hl) k) Q) := by
  unfold halfPts
  iintro H Hk
  iapply (wp_load 𝒱₀ (c : Thread nD τ) none Set.univ (m := wM) (r := (halfR off h).toLoadRect) (halfL_sub (h := h) b ho)) $$ H
  rw [read_half b ho]
  iexact Hk

theorem step_store {k : PUnit → Prog (TpuEff nD τ sig (Elt F) Λ₀ .tc) α} (k' : ℕ) (f : S16x512x1024.Idx → Elt F .bf16) (v : S1x512x1024.Idx → Elt F .bf16)
    {off : Fin 3 → ℕ} {h} (ho : off = ![k', 0, 0]) {hx hm} :
    slotPts c k' fullShare f ⊢ iprop((slotPts c k' fullShare (spread v) -∗ WP c (k ⟨⟩) Q) -∗ WP c (.op (.store eM (slotR off h) v Finset.univ hx hm) k) Q) := by
  unfold slotPts
  iintro H Hk
  iapply (wp_store 𝒱₀ (c : Thread nD τ) none Set.univ (m := eM) (r := slotR off h) (Mk := Finset.univ) (slotR_sub (h := h) k' ho)) $$ H
  have e := pointsTo_congr (Ix := Unit) (Name := ℕ) (U := UU) (Lvl := ℕ) (ℓ := (c : Thread nD τ).loc cc0_scratch0) (q := fullShare)
    (write_slot (h := h) k' ho f v)
  rw [← e]
  iexact Hk

/-- The staged activations. -/
def xPts : sProp 𝕄 := (((c : Thread nD τ).loc cc0_stg0_0) ↦{fullShare} iblk m c 0 t0_0)

theorem step_loadx {k : (S512x1024.Idx → Elt F .f32) → Prog (TpuEff nD τ sig (Elt F) Λ₀ .tc) α} {h} {hl} :
    xPts m c ⊢ iprop((xPts m c -∗ WP c (k (iblk m c 0 t0_0)) Q)
      -∗ WP c (.op (.load (Memref.whole cc0_stg0_0) (Rect.unit (s := S512x1024) ![0, 0] S512x1024.size h).toLoadRect hl) k) Q) := by
  unfold xPts
  iintro H Hk
  iapply (wp_load 𝒱₀ (c : Thread nD τ) none Set.univ (m := Memref.whole cc0_stg0_0) (r := (Rect.unit (s := S512x1024) ![0, 0] S512x1024.size h).toLoadRect) (Finset.subset_univ _)) $$ H
  have e : (Memref.whole cc0_stg0_0).view.readAt (Elt F) (Rect.unit (s := S512x1024) ![0, 0] S512x1024.size h).toLoadRect (iblk m c 0 t0_0) = iblk m c 0 t0_0 :=
    Memref.readAt_unit_zero (Elt F) cc0_stg0_0 (funext fun a => by fin_cases a <;> rfl) _ _
  rw [e]
  iexact Hk

end Mem

end Cert.KernelIdeal.Run
-- ==== Proof.Geometry.lean ====
/-
# Which slot, which column block, which semaphore, which device

The kernel computes its offsets, device ids and semaphore indices from its device id. Each lemma here reads one of those
computations as the protocol names it.
-/
module

public import proofs.«01_k».proof.Proof.Steps

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA

variable {F : FTy → Type} [FloatOps F]

/-- DMA semaphore number `n`. -/
abbrev dq (n : ℕ) (h : n < 35 := by decide) : DmaSem sig := ⟨n, h⟩

/-- The semaphores along `z` of the tiles that arrived along `x` (`Own`) and along `y` (`Oth`): at the sender, then at the receiver. -/
def sOwn (c : Dev nD) (j : Fin 2) : DmaSem sig := ⟨11 + 2 * ((c.val / 2) % 2) + j.val, by have := j.isLt; show _ < 35; omega⟩
def sOth (c : Dev nD) (j : Fin 2) : DmaSem sig := ⟨11 + 2 * (1 - (c.val / 2) % 2) + j.val, by have := j.isLt; show _ < 35; omega⟩
def zOwn (c : Dev nD) (j : Fin 2) : DmaSem sig := ⟨15 + 2 * ((c.val / 2) % 2) + j.val, by have := j.isLt; show _ < 35; omega⟩
def zOth (c : Dev nD) (j : Fin 2) : DmaSem sig := ⟨15 + 2 * (1 - (c.val / 2) % 2) + j.val, by have := j.isLt; show _ < 35; omega⟩

theorem far_sOwn (c : Dev nD) (j : Fin 2) : Far (sOwn c j).val := by revert c j; decide
theorem far_sOth (c : Dev nD) (j : Fin 2) : Far (sOth c j).val := by revert c j; decide
theorem far_zOwn (c : Dev nD) (j : Fin 2) : Far (zOwn c j).val := by revert c j; decide
theorem far_zOth (c : Dev nD) (j : Fin 2) : Far (zOth c j).val := by revert c j; decide

/-- The slots of the tiles that arrive along `x` and along `y`. -/
def sX (c : Dev nD) (j : ℕ) : ℕ := 8 + 2 * qx c + j
def sY (c : Dev nD) (j : ℕ) : ℕ := 8 + 2 * qy c + j
theorem sX_ge (c : Dev nD) (j : ℕ) : 8 ≤ sX c j := by unfold sX; omega
theorem sY_ge (c : Dev nD) (j : ℕ) : 8 ≤ sY c j := by unfold sY; omega

theorem slot_sOwn (c : Dev nD) (j : Fin 2) : slotOf c (sOwn c j).val = sX c j := by revert c j; decide
theorem slot_sOth (c : Dev nD) (j : Fin 2) : slotOf c (sOth c j).val = sY c j := by revert c j; decide
theorem slot_zOwn (c : Dev nD) (j : Fin 2) : slotOf (nZ c) (zOwn c j).val = sX c j := by revert c j; decide
theorem slot_zOth (c : Dev nD) (j : Fin 2) : slotOf (nZ c) (zOth c j).val = sY c j := by revert c j; decide
theorem slot_ry (c : Dev nD) (j : Fin 2) : slotOf (nY c) (9 + j.val) = sX c j := by revert c j; decide
theorem slot_rx (c : Dev nD) (j : Fin 2) : slotOf (nX c) (5 + j.val) = sX c j := by revert c j; decide

theorem share_sOwn (c : Dev nD) (j : Fin 2) : shareOf (sOwn c j).val = fullShare.left := by
  have := j.isLt; unfold shareOf sOwn; rw [if_neg (by simp only; omega), if_pos (by simp only; omega)]
theorem share_sOth (c : Dev nD) (j : Fin 2) : shareOf (sOth c j).val = fullShare.left := by
  have := j.isLt; unfold shareOf sOth; rw [if_neg (by simp only; omega), if_pos (by simp only; omega)]
theorem share_zOwn (c : Dev nD) (j : Fin 2) : shareOf (zOwn c j).val = fullShare := by
  have := j.isLt; unfold shareOf zOwn; rw [if_neg (by simp only; omega), if_neg (by simp only; omega)]
theorem share_zOth (c : Dev nD) (j : Fin 2) : shareOf (zOth c j).val = fullShare := by
  have := j.isLt; unfold shareOf zOth; rw [if_neg (by simp only; omega), if_neg (by simp only; omega)]

/-! ## Devices -/

theorem dev1_eq (c : Dev nD) : (⟨k0_dev1 c, k0_dev1_lt c⟩ : Dev nD) = nX c := by revert c; decide +kernel
theorem dev2_eq (c : Dev nD) : (⟨k0_dev2 c, k0_dev2_lt c⟩ : Dev nD) = nY c := by revert c; decide +kernel
theorem dev3_eq (c : Dev nD) : (⟨k0_dev3 c, k0_dev3_lt c⟩ : Dev nD) = nZ c := by revert c; decide +kernel
theorem dev4_eq (c : Dev nD) : (⟨k0_dev4 c, k0_dev4_lt c⟩ : Dev nD) = nX c := by revert c; decide +kernel
theorem dev5_eq (c : Dev nD) : (⟨k0_dev5 c, k0_dev5_lt c⟩ : Dev nD) = nX c := by revert c; decide +kernel
theorem dev6_eq (c : Dev nD) : (⟨k0_dev6 c, k0_dev6_lt c⟩ : Dev nD) = nY c := by revert c; decide +kernel
theorem dev7_eq (c : Dev nD) : (⟨k0_dev7 c, k0_dev7_lt c⟩ : Dev nD) = nZ c := by revert c; decide +kernel
theorem dev8_eq (c : Dev nD) : (⟨k0_dev8 c, k0_dev8_lt c⟩ : Dev nD) = nY c := by revert c; decide +kernel
theorem dev9_eq (c : Dev nD) : (⟨k0_dev9 c, k0_dev9_lt c⟩ : Dev nD) = nZ c := by revert c; decide +kernel
theorem dev10_eq (c : Dev nD) : (⟨k0_dev10 c, k0_dev10_lt c⟩ : Dev nD) = nZ c := by revert c; decide +kernel
theorem dev11_eq (c : Dev nD) : (⟨k0_dev11 c, k0_dev11_lt c⟩ : Dev nD) = nZ c := by revert c; decide +kernel

/-! ## Offsets -/

theorem off1_perm (c : Dev nD) (r : Fin 8) : k0_off1 c (BitVec.ofNat 32 r.val) = ![0, perm c r.val * 1024] := by revert c r; decide +kernel
theorem off2_sX (c : Dev nD) (r : Fin 2) : k0_off2 c (BitVec.ofNat 32 r.val) = ![sX c r.val, 0, 0] := by revert c r; decide +kernel
theorem off4_sX (c : Dev nD) (r : Fin 2) : k0_off4 c (BitVec.ofNat 32 r.val) = ![sX c r.val, 0, 0] := by revert c r; decide +kernel
theorem off5_sY (c : Dev nD) (r : Fin 2) : k0_off5 c (BitVec.ofNat 32 r.val) = ![sY c r.val, 0, 0] := by revert c r; decide +kernel
theorem off7_sY (c : Dev nD) (r : Fin 2) : k0_off7 c (BitVec.ofNat 32 r.val) = ![sY c r.val, 0, 0] := by revert c r; decide +kernel
theorem off10_slot (c : Dev nD) (i : Fin k0_t1_loop.trips) : k0_off10 c i = ![slotOf c (15 + i.val), 0, 0] := by revert c i; decide +kernel

/-- The block of the result's columns slot `k` is written to. -/
def outBlk (c : Dev nD) (k : ℕ) : ℕ := if k < 8 then 8 * (c.val / 4) + perm c k else 8 * (1 - c.val / 4) + (k - 8)
theorem off13_out (c : Dev nD) (k : Fin k0_t2_loop.trips) : k0_off13 c k = ![0, outBlk c k.val * 1024] := by revert c k; decide +kernel

/-! ## Semaphores -/

theorem sem_off3 (c : Dev nD) (j : Fin 2) (h) : (((cc0_scratch7 : DmaSems sig S4).slice (Rect.unit (s := S4) (k0_off3 c (BitVec.ofNat 32 j.val)) S1.size h)).squeeze S_ squeezes_S1_S_).sem = sOwn c j := by
  revert h; rw [k0_off3_eq c j]; revert c j; decide +kernel
theorem sem_off3' (c : Dev nD) (j : Fin 2) (h) : (((cc0_scratch8 : DmaSems sig S4).slice (Rect.unit (s := S4) (k0_off3 c (BitVec.ofNat 32 j.val)) S1.size h)).squeeze S_ squeezes_S1_S_).sem = zOwn c j := by
  revert h; rw [k0_off3_eq c j]; revert c j; decide +kernel
theorem sem_off6 (c : Dev nD) (j : Fin 2) (h) : (((cc0_scratch7 : DmaSems sig S4).slice (Rect.unit (s := S4) (k0_off6 c (BitVec.ofNat 32 j.val)) S1.size h)).squeeze S_ squeezes_S1_S_).sem = sOth c j := by
  revert h; rw [k0_off6_eq c j]; revert c j; decide +kernel
theorem sem_off6' (c : Dev nD) (j : Fin 2) (h) : (((cc0_scratch8 : DmaSems sig S4).slice (Rect.unit (s := S4) (k0_off6 c (BitVec.ofNat 32 j.val)) S1.size h)).squeeze S_ squeezes_S1_S_).sem = zOth c j := by
  revert h; rw [k0_off6_eq c j]; revert c j; decide +kernel
theorem sem_off8 (i : Fin k0_t1_loop.trips) (h) : (((cc0_scratch8 : DmaSems sig S4).slice (Rect.unit (s := S4) (k0_off8 i) S1.size h)).squeeze S_ squeezes_S1_S_).sem = ⟨15 + i.val, by have := i.isLt; revert this; generalize i.val = v; intro h; have h' : v < 4 := h; show _ < 35; omega⟩ := by
  revert h; rw [k0_off8_eq i]; revert i; decide +kernel
theorem sem_off12 (i : Fin k0_t2_loop.trips) (h) : (((cc0_scratch9 : DmaSems sig S16).slice (Rect.unit (s := S16) (k0_off12 i) S1.size h)).squeeze S_ squeezes_S1_S_).sem = ⟨19 + i.val, by have := i.isLt; revert this; generalize i.val = v; intro h; have h' : v < 16 := h; show _ < 35; omega⟩ := by
  revert h; rw [k0_off12_eq i]; revert i; decide +kernel

/-! ## What is owed after each step -/

/-- A barrier signal owed, and a remote copy's landing owed. -/
abbrev dBar (c : Dev nD) : (Dev nD × SemLoc sig) × ℕ := ((c, .reg barS), 1)
abbrev dFar (c : Dev nD) (q : DmaSem sig) : (Dev nD × SemLoc sig) × ℕ := ((c, .dma q), N)

abbrev o10 (c : Dev nD) : List ((Dev nD × SemLoc sig) × ℕ) := dFar (nZ c) (zOth c 1) :: []
abbrev o9 (c : Dev nD) : List ((Dev nD × SemLoc sig) × ℕ) := dFar (nZ c) (zOth c 0) :: o10 c
abbrev o8 (c : Dev nD) : List ((Dev nD × SemLoc sig) × ℕ) := dFar (nZ c) (zOwn c 1) :: o9 c
abbrev o7 (c : Dev nD) : List ((Dev nD × SemLoc sig) × ℕ) := dFar (nY c) (dq 10) :: o8 c
abbrev o6 (c : Dev nD) : List ((Dev nD × SemLoc sig) × ℕ) := dFar (nZ c) (zOwn c 0) :: o7 c
abbrev o5 (c : Dev nD) : List ((Dev nD × SemLoc sig) × ℕ) := dFar (nY c) (dq 9) :: o6 c
abbrev o4 (c : Dev nD) : List ((Dev nD × SemLoc sig) × ℕ) := dFar (nX c) (dq 6) :: o5 c
abbrev o3 (c : Dev nD) : List ((Dev nD × SemLoc sig) × ℕ) := dFar (nX c) (dq 5) :: o4 c
abbrev o0 (c : Dev nD) : List ((Dev nD × SemLoc sig) × ℕ) := dBar (nX c) :: dBar (nY c) :: dBar (nZ c) :: o3 c

theorem lv_zOwn (c : Dev nD) (j : Fin 2) : lvS (.dma (zOwn c j)) = 4 := by revert c j; decide
theorem lv_zOth (c : Dev nD) (j : Fin 2) : lvS (.dma (zOth c j)) = 4 := by revert c j; decide

theorem lv_o10 (c : Dev nD) : ∀ a ∈ o10 c, 3 < lvS a.1.2 := by
  intro a ha; rw [List.mem_singleton.mp ha]; show 3 < lvS (.dma (zOth c 1)); rw [lv_zOth]; decide
theorem lv_o9 (c : Dev nD) : ∀ a ∈ o9 c, 3 < lvS a.1.2 := List.forall_mem_cons.mpr ⟨by show 3 < lvS (.dma (zOth c 0)); rw [lv_zOth]; decide, lv_o10 c⟩
theorem lv_o8 (c : Dev nD) : ∀ a ∈ o8 c, 3 < lvS a.1.2 := List.forall_mem_cons.mpr ⟨by show 3 < lvS (.dma (zOwn c 1)); rw [lv_zOwn]; decide, lv_o9 c⟩
theorem lv_o7 (c : Dev nD) : ∀ a ∈ o7 c, 2 < lvS a.1.2 := List.forall_mem_cons.mpr ⟨by show 2 < lvS (.dma (dq 10)); decide, fun a ha => lt_trans (by decide) (lv_o8 c a ha)⟩
theorem lv_o6 (c : Dev nD) : ∀ a ∈ o6 c, 2 < lvS a.1.2 := List.forall_mem_cons.mpr ⟨by show 2 < lvS (.dma (zOwn c 0)); rw [lv_zOwn]; decide, lv_o7 c⟩
theorem lv_o5 (c : Dev nD) : ∀ a ∈ o5 c, 2 < lvS a.1.2 := List.forall_mem_cons.mpr ⟨by show 2 < lvS (.dma (dq 9)); decide, lv_o6 c⟩
theorem lv_o4 (c : Dev nD) : ∀ a ∈ o4 c, 1 < lvS a.1.2 := List.forall_mem_cons.mpr ⟨by show 1 < lvS (.dma (dq 6)); decide, fun a ha => lt_trans (by decide) (lv_o5 c a ha)⟩
theorem lv_o3 (c : Dev nD) : ∀ a ∈ o3 c, 1 < lvS a.1.2 := List.forall_mem_cons.mpr ⟨by show 1 < lvS (.dma (dq 5)); decide, lv_o4 c⟩
theorem low {l : List ((Dev nD × SemLoc sig) × ℕ)} {n : ℕ} (h : ∀ a ∈ l, n < lvS a.1.2) : ∀ a ∈ l, 0 < lvS a.1.2 := fun a ha => Nat.zero_lt_of_lt (h a ha)
theorem lv_nil {n : ℕ} : ∀ a ∈ ([] : List ((Dev nD × SemLoc sig) × ℕ)), n < lvS a.1.2 := fun a ha => absurd ha List.not_mem_nil

end Cert.KernelIdeal.Run
-- ==== Proof.PartsA.lean ====
/-
# The kernel's first half: the barrier, the eight tiles, and the sends along `x`

Each lemma runs one stretch of the kernel on device `c`, from what it needs to what it leaves.
-/
module

public import proofs.«01_k».proof.Proof.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- What every stretch may use: the cells' records and the levels. -/
def ctx : sProp 𝕄 := iprop(records m K ∗ levAts L lv)
instance ctx_persistent : BI.Persistent (ctx m K) := by unfold ctx; infer_instance

/-- A slot holding anything; half of the weight buffer holding anything. -/
def slotAny (k : ℕ) : sProp 𝕄 := iprop(∃ f, slotPts c k fullShare f)
def halfAny (b : ℕ) : sProp 𝕄 := iprop(∃ f, halfPts c b f)
/-- A duty of a remote copy; the credit for its landing; the place in its round. -/
abbrev tk (c : Dev nD) (q : DmaSem sig) : sProp 𝕄 := dutyTok ER (farCell c q) 0 0
abbrev cr (c : Dev nD) (q : DmaSem sig) : sProp 𝕄 := cred (tallyAt (farCell c q) () N)
abbrev at0 (c : Dev nD) (q : DmaSem sig) : sProp 𝕄 := atPos ER (farCell c q) 0 ∅ 0
abbrev at1 (c : Dev nD) (q : DmaSem sig) : sProp 𝕄 := atPos ER (farCell c q) 1 ∅ 0
abbrev sv (c : Dev nD) (q : DmaSem sig) : sProp 𝕄 := semVal ((c : Thread nD τ), .dma q) 0

/-- The chunk of weights taken `j`-th on its way into half `b`. -/
abbrev fly (s : DmaSem sig) (b j : ℕ) : sProp 𝕄 := wFly m c s b (perm c j)
/-- That chunk's place in the weights, held. -/
abbrev win (j : ℕ) : sProp 𝕄 := winPts m c (perm c j)

theorem WP_ret {α : Type} {a : α} {Q : α → sProp (MT nD τ sig Unit (Elt F) ℕ UU ℕ)} : Q a ⊢ WP c (Prog.ret a) Q := by
  unfold WP; rw [wp_ret]; iintro H; imodintro; iexact H

theorem E_own (j : ℕ) (h : j < 8) : E m c j = tileOf m c j := if_pos h

set_option maxHeartbeats 1000000 in
theorem part1 (Kt) :
    iprop(ctx m K ∗ (ow c (o0 c) ∗ dutyTok ER (barCell (nX c)) 0 0 ∗ dutyTok ER (barCell (nY c)) 0 1 ∗ barPay (nX c) 0 ∗ barPay (nY c) 1)
        ∗ (∀ v2 v5 v8 v9 v10 v11 v13 v16 v31, ow c (dBar (nZ c) :: o3 c) -∗ Kt ⟨c, v2, v5, v8, v9, v10, v11, v13, v16, (SemArray.scalar (sig.barrier 0 rfl) : Sems sig S_), v31⟩))
      ⊢ WP c (k0_part1 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9) Kt := by
  simp only [k0_part1_eq_skeleton]; unfold k0_part1_skel
  simp only [semSignalWord, semWaitWord, Prog.lift, Prog.bind_op, Prog.bind_ret, Prog.pure_eq_ret, WP, wp_deviceId]
  unfold ctx
  iintro ⟨⟨#HR, #Hlev⟩, ⟨HO, Ht1, Ht2, Hp1, Hp2⟩, Hk⟩
  iapply (step_signal m K c _ (nX c) 0 _ (dev1_eq c) rfl rfl) $$ [HO Ht1 Hp1]
  · iframe # HO Ht1 Hp1
  iintro HO
  iapply (step_signal m K c _ (nY c) 1 _ (dev2_eq c) rfl rfl) $$ [HO Ht2 Hp2]
  · iframe # HO Ht2 Hp2
  iintro HO
  iapply (WP_ret c)
  iapply Hk; iexact HO

set_option maxHeartbeats 1000000 in
theorem part2 (v5 v11 v13 v31) (Kt) :
    iprop(ctx m K ∗ (ow c (dBar (nZ c) :: o3 c) ∗ dutyTok ER (barCell (nZ c)) 0 2 ∗ barPay (nZ c) 2 ∗ cred (tallyAt (barCell c) () 3) ∗ atPos ER (barCell c) 0 ∅ 0 ∗ xPts m c
          ∗ win m c 0 ∗ win m c 1 ∗ halfAny c 0 ∗ halfAny c 1 ∗ sv c (dq 1) ∗ sv c (dq 2))
        ∗ (∀ v59, iprop(ow c (o3 c) ∗ atPos ER (barCell c) 1 ∅ 0 ∗ (barPay c 0 ∗ barPay c 1 ∗ barPay c 2) ∗ xPts m c ∗ fly m c (dq 1) 0 0 ∗ fly m c (dq 2) 1 1)
            -∗ Kt ⟨xv m c, k0_pay2, v59, 8#32⟩))
      ⊢ WP c (k0_part2 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v5 v11 v13 (SemArray.scalar (sig.barrier 0 rfl) : Sems sig S_) v31) Kt := by
  simp only [k0_part2_eq_skeleton]; unfold k0_part2_skel
  simp only [semSignalWord, semWaitWord, Prog.lift, Prog.bind_op, Prog.bind_ret, Prog.pure_eq_ret]
  unfold ctx halfAny
  iintro ⟨⟨#HR, #Hlev⟩, ⟨HO, Ht, Hp, Hc, Hat, Hx, Hw0, Hw1, ⟨%f0, Hh0⟩, ⟨%f1, Hh1⟩, Hv1, Hv2⟩, Hk⟩
  iapply (step_signal m K c _ (nZ c) 2 _ (dev3_eq c) rfl rfl) $$ [HO Ht Hp]
  · iframe # HO Ht Hp
  iintro HO
  iapply (step_barrier m K c _ (lv_o3 c) rfl rfl) $$ [HO Hc Hat]
  · iframe # HO Hc Hat
  iintro ⟨HO, Hat, Hb⟩
  iapply (step_loadx m c) $$ Hx
  iintro Hx
  iapply (step_wcopy m c (dq 1) 0 (perm c 0) f0 (off1_perm c 0) rfl rfl) $$ [Hw0 Hh0 Hv1]
  · iframe Hw0 Hh0 Hv1
  iintro HF0
  iapply (step_wcopy m c (dq 2) 1 (perm c 1) f1 (off1_perm c 1) rfl rfl) $$ [Hw1 Hh1 Hv2]
  · iframe Hw1 Hh1 Hv2
  iintro HF1
  iapply (WP_ret c)
  unfold xv; iapply Hk; iframe HO Hat Hb Hx HF0 HF1

set_option maxHeartbeats 1000000 in
theorem part3 (v5 v8 v9 v13 v39 v59 w) (Kt) :
    iprop(ctx m K ∗ (ow c (o3 c) ∗ fly m c (dq 1) 0 0 ∗ slotAny c 0)
        ∗ (iprop(ow c (o3 c) ∗ halfAny c 0 ∗ win m c 0 ∗ sv c (dq 1) ∗ slotE m c 0 fullShare) -∗ Kt (k0_pay5 (xv m c) v39 (ch m c 0))))
      ⊢ WP c (k0_part3 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v5 v8 v9 v13 (xv m c) v39 v59 w) Kt := by
  simp only [k0_part3_eq_skeleton]; unfold k0_part3_skel
  simp only [Prog.lift, Prog.bind_op, Prog.bind_ret, Prog.pure_eq_ret]
  unfold ctx slotAny halfAny
  iintro ⟨⟨#HR, #Hlev⟩, ⟨HO, HF, ⟨%f, Hs⟩⟩, Hk⟩
  iapply (step_wwait m c (dq 1) 0 (perm c 0) _ (low (lv_o3 c)) rfl) $$ [HO HF]
  · iframe # HO HF
  iintro ⟨Hh, Hw, Hv, HO⟩
  iapply (step_loadW c 0 _ rfl) $$ Hh
  iintro Hh
  iapply (step_load_any c 0 fullShare f rfl) $$ Hs
  iintro %_ Hs
  iapply (step_store c 0 f (tileOf m c 0) rfl) $$ Hs
  iintro Hs
  iapply (WP_ret c)
  unfold ch; iapply Hk
  unfold slotE; rw [E_own m c 0 (by decide)]
  iframe HO Hw Hv Hs
  iexists _; iexact Hh

set_option maxHeartbeats 1000000 in
theorem part4 (v13) (Kt) :
    iprop(ctx m K ∗ (ow c (o3 c) ∗ slotE m c 0 fullShare ∗ zone (nX c) 5 ∗ tk c (dq 3) ∗ tk (nX c) (dq 5) ∗ win m c 2 ∗ halfAny c 0 ∗ sv c (dq 1)
          ∗ fly m c (dq 2) 1 1 ∗ slotAny c 1)
        ∗ (iprop(ow c (o4 c) ∗ cr c (dq 3) ∗ fly m c (dq 1) 0 2 ∗ halfAny c 1 ∗ win m c 1 ∗ sv c (dq 2) ∗ slotAny c 1)
            -∗ Kt ⟨k0_pay6 (xv m c) (ch m c 1), k0_pay7 (xv m c) (ch m c 1)⟩))
      ⊢ WP c (k0_part4 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c)) Kt := by
  simp only [k0_part4_eq_skeleton]; unfold k0_part4_skel
  simp only [Prog.lift, Prog.bind_op, Prog.bind_ret, Prog.pure_eq_ret]
  unfold ctx slotAny halfAny
  iintro ⟨⟨#HR, #Hlev⟩, ⟨HO, Hs, Hz, Ht, Ht', Hw, ⟨%g, Hh⟩, Hv, HF, ⟨%f, Hs1⟩⟩, Hk⟩
  iapply (step_send m K c _ (nX c) (dq 3) (dq 5) (by decide) (by decide) _ 0 fullShare rfl rfl rfl
      ((congrArg _ (slot_rx c 0)).trans (E_nX m c 0 (by decide))) rfl ((off2_sX c 0).trans (by rw [← slot_rx c 0]; rfl)) rfl rfl (dev4_eq c)) $$ [HO Hs Hz Ht Ht']
  · iframe # HO Hs Hz Ht Ht'
  iintro ⟨Hc, HO⟩
  iapply (step_wcopy m c (dq 1) 0 (perm c 2) g (off1_perm c 2) rfl rfl) $$ [Hw Hh Hv]
  · iframe Hw Hh Hv
  iintro HF0
  iapply (step_wwait m c (dq 2) 1 (perm c 1) _ (low (lv_o4 c)) rfl) $$ [HO HF]
  · iframe # HO HF
  iintro ⟨Hh, Hw, Hv, HO⟩
  iapply (step_loadW c 1 _ rfl) $$ Hh
  iintro Hh
  iapply (step_load_any c 1 fullShare f rfl) $$ Hs1
  iintro %_ Hs
  iapply (WP_ret c)
  unfold ch; iapply Hk
  iframe HO Hc HF0 Hw Hv
  isplitl [Hh]
  · iexists _; iexact Hh
  iexists _; iexact Hs

set_option maxHeartbeats 1000000 in
theorem part5 (v5 v8 v9 v13 v78 v118) (Kt) :
    iprop(ctx m K ∗ (ow c (o4 c) ∗ slotAny c 1 ∗ zone (nX c) 6 ∗ tk c (dq 4) ∗ tk (nX c) (dq 6) ∗ win m c 3 ∗ halfAny c 1 ∗ sv c (dq 2))
        ∗ (∀ v152, iprop(ow c (o5 c) ∗ cr c (dq 4) ∗ fly m c (dq 2) 1 3) -∗ Kt ⟨k0_pay9 v78 v118, v152, 2#32⟩))
      ⊢ WP c (k0_part5 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v5 v8 v9 v13 v78 v118 (k0_pay7 (xv m c) (ch m c 1))) Kt := by
  simp only [k0_part5_eq_skeleton]; unfold k0_part5_skel
  simp only [Prog.lift, Prog.bind_op, Prog.bind_ret, Prog.pure_eq_ret]
  unfold ctx slotAny halfAny
  iintro ⟨⟨#HR, #Hlev⟩, ⟨HO, ⟨%f, Hs⟩, Hz, Ht, Ht', Hw, ⟨%g, Hh⟩, Hv⟩, Hk⟩
  iapply (step_store c 1 f (tileOf m c 1) rfl) $$ Hs
  rw [← E_own m c 1 (by decide)]
  iintro Hs
  iapply (step_send m K c _ (nX c) (dq 4) (dq 6) (by decide) (by decide) _ 1 fullShare rfl rfl rfl
      ((congrArg _ (slot_rx c 1)).trans (E_nX m c 1 (by decide))) rfl ((off2_sX c 1).trans (by rw [← slot_rx c 1]; rfl)) rfl rfl (dev5_eq c)) $$ [HO Hs Hz Ht Ht']
  · iframe # HO Hs Hz Ht Ht'
  iintro ⟨Hc, HO⟩
  iapply (step_wcopy m c (dq 2) 1 (perm c 3) g (off1_perm c 3) rfl rfl) $$ [Hw Hh Hv]
  · iframe Hw Hh Hv
  iintro HF0
  iapply (WP_ret c)
  iapply Hk
  iframe HO Hc HF0

set_option maxHeartbeats 1000000 in
theorem part6 (v13 v125 v152 w) (Kt) :
    iprop(ctx m K ∗ (ow c (o5 c) ∗ fly m c (dq 1) 0 2 ∗ slotAny c 2 ∗ win m c 4)
        ∗ (∀ v183, iprop(ow c (o5 c) ∗ slotE m c 2 fullShare ∗ win m c 2 ∗ fly m c (dq 1) 0 4) -∗ Kt ⟨k0_pay12 (xv m c) v125 (ch m c 2), v183⟩))
      ⊢ WP c (k0_part6 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c) v125 v152 w) Kt := by
  simp only [k0_part6_eq_skeleton]; unfold k0_part6_skel
  simp only [Prog.lift, Prog.bind_op, Prog.bind_ret, Prog.pure_eq_ret]
  unfold ctx slotAny
  iintro ⟨⟨#HR, #Hlev⟩, ⟨HO, HF, ⟨%f, Hs⟩, Hw'⟩, Hk⟩
  iapply (step_wwait m c (dq 1) 0 (perm c 2) _ (low (lv_o5 c)) rfl) $$ [HO HF]
  · iframe # HO HF
  iintro ⟨Hh, Hw, Hv, HO⟩
  iapply (step_loadW c 0 _ rfl) $$ Hh
  iintro Hh
  iapply (step_load_any c 2 fullShare f rfl) $$ Hs
  iintro %_ Hs
  iapply (step_store c 2 f (tileOf m c 2) rfl) $$ Hs
  iintro Hs
  iapply (step_wcopy m c (dq 1) 0 (perm c 4) _ (off1_perm c 4) rfl rfl) $$ [Hw' Hh Hv]
  · iframe Hw' Hh Hv
  iintro HF0
  iapply (WP_ret c)
  unfold ch; iapply Hk
  unfold slotE; rw [E_own m c 2 (by decide)]
  iframe HO Hs Hw HF0

set_option maxHeartbeats 1000000 in
theorem part7 (v13 v172 v183) (Kt) :
    iprop(ctx m K ∗ (ow c (o5 c) ∗ fly m c (dq 2) 1 3 ∗ slotAny c 3 ∗ win m c 5)
        ∗ (∀ v213, iprop(ow c (o5 c) ∗ slotE m c 3 fullShare ∗ win m c 3 ∗ fly m c (dq 2) 1 5) -∗ Kt ⟨k0_pay15 (xv m c) v172 (ch m c 3), v213, 8#32⟩))
      ⊢ WP c (k0_part7 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c) v172 v183) Kt := by
  simp only [k0_part7_eq_skeleton]; unfold k0_part7_skel
  simp only [Prog.lift, Prog.bind_op, Prog.bind_ret, Prog.pure_eq_ret]
  unfold ctx slotAny
  iintro ⟨⟨#HR, #Hlev⟩, ⟨HO, HF, ⟨%f, Hs⟩, Hw'⟩, Hk⟩
  iapply (step_wwait m c (dq 2) 1 (perm c 3) _ (low (lv_o5 c)) rfl) $$ [HO HF]
  · iframe # HO HF
  iintro ⟨Hh, Hw, Hv, HO⟩
  iapply (step_loadW c 1 _ rfl) $$ Hh
  iintro Hh
  iapply (step_load_any c 3 fullShare f rfl) $$ Hs
  iintro %_ Hs
  iapply (step_store c 3 f (tileOf m c 3) rfl) $$ Hs
  iintro Hs
  iapply (step_wcopy m c (dq 2) 1 (perm c 5) _ (off1_perm c 5) rfl rfl) $$ [Hw' Hh Hv]
  · iframe Hw' Hh Hv
  iintro HF0
  iapply (WP_ret c)
  unfold ch; iapply Hk
  unfold slotE; rw [E_own m c 3 (by decide)]
  iframe HO Hs Hw HF0

set_option maxHeartbeats 1000000 in
theorem part8 (v13 v202 v213 w) (Kt) :
    iprop(ctx m K ∗ (ow c (o5 c) ∗ fly m c (dq 1) 0 4 ∗ slotAny c 4 ∗ win m c 6)
        ∗ (∀ v244, iprop(ow c (o5 c) ∗ slotE m c 4 fullShare ∗ win m c 4 ∗ fly m c (dq 1) 0 6) -∗ Kt ⟨k0_pay18 (xv m c) v202 (ch m c 4), v244⟩))
      ⊢ WP c (k0_part8 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c) v202 v213 w) Kt := by
  simp only [k0_part8_eq_skeleton]; unfold k0_part8_skel
  simp only [Prog.lift, Prog.bind_op, Prog.bind_ret, Prog.pure_eq_ret]
  unfold ctx slotAny
  iintro ⟨⟨#HR, #Hlev⟩, ⟨HO, HF, ⟨%f, Hs⟩, Hw'⟩, Hk⟩
  iapply (step_wwait m c (dq 1) 0 (perm c 4) _ (low (lv_o5 c)) rfl) $$ [HO HF]
  · iframe # HO HF
  iintro ⟨Hh, Hw, Hv, HO⟩
  iapply (step_loadW c 0 _ rfl) $$ Hh
  iintro Hh
  iapply (step_load_any c 4 fullShare f rfl) $$ Hs
  iintro %_ Hs
  iapply (step_store c 4 f (tileOf m c 4) rfl) $$ Hs
  iintro Hs
  iapply (step_wcopy m c (dq 1) 0 (perm c 6) _ (off1_perm c 6) rfl rfl) $$ [Hw' Hh Hv]
  · iframe Hw' Hh Hv
  iintro HF0
  iapply (WP_ret c)
  unfold ch; iapply Hk
  unfold slotE; rw [E_own m c 4 (by decide)]
  iframe HO Hs Hw HF0

set_option maxHeartbeats 1000000 in
theorem part9 (v13 v232 v244) (Kt) :
    iprop(ctx m K ∗ (ow c (o5 c) ∗ fly m c (dq 2) 1 5 ∗ slotAny c 5 ∗ win m c 7)
        ∗ (∀ v274, iprop(ow c (o5 c) ∗ slotE m c 5 fullShare ∗ win m c 5 ∗ fly m c (dq 2) 1 7) -∗ Kt ⟨k0_pay21 (xv m c) v232 (ch m c 5), v274, 1024#32⟩))
      ⊢ WP c (k0_part9 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c) v232 v244) Kt := by
  simp only [k0_part9_eq_skeleton]; unfold k0_part9_skel
  simp only [Prog.lift, Prog.bind_op, Prog.bind_ret, Prog.pure_eq_ret]
  unfold ctx slotAny
  iintro ⟨⟨#HR, #Hlev⟩, ⟨HO, HF, ⟨%f, Hs⟩, Hw'⟩, Hk⟩
  iapply (step_wwait m c (dq 2) 1 (perm c 5) _ (low (lv_o5 c)) rfl) $$ [HO HF]
  · iframe # HO HF
  iintro ⟨Hh, Hw, Hv, HO⟩
  iapply (step_loadW c 1 _ rfl) $$ Hh
  iintro Hh
  iapply (step_load_any c 5 fullShare f rfl) $$ Hs
  iintro %_ Hs
  iapply (step_store c 5 f (tileOf m c 5) rfl) $$ Hs
  iintro Hs
  iapply (step_wcopy m c (dq 2) 1 (perm c 7) _ (off1_perm c 7) rfl rfl) $$ [Hw' Hh Hv]
  · iframe Hw' Hh Hv
  iintro HF0
  iapply (WP_ret c)
  unfold ch; iapply Hk
  unfold slotE; rw [E_own m c 5 (by decide)]
  iframe HO Hs Hw HF0

set_option maxHeartbeats 1000000 in
theorem part10 (v13 v262 v274 w) (Kt) :
    iprop(ctx m K ∗ (ow c (o5 c) ∗ fly m c (dq 1) 0 6 ∗ fly m c (dq 2) 1 7 ∗ slotAny c 6)
        ∗ (iprop(ow c (o5 c) ∗ slotE m c 6 fullShare ∗ win m c 6 ∗ win m c 7 ∗ halfAny c 0 ∗ halfAny c 1 ∗ sv c (dq 1) ∗ sv c (dq 2))
          -∗ Kt ⟨k0_pay24 (xv m c) v262 (ch m c 6), k0_pay25 (xv m c) (ch m c 7)⟩))
      ⊢ WP c (k0_part10 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v13 (xv m c) v262 v274 w) Kt := by
  simp only [k0_part10_eq_skeleton]; unfold k0_part10_skel
  simp only [Prog.lift, Prog.bind_op, Prog.bind_ret, Prog.pure_eq_ret]
  unfold ctx slotAny halfAny
  iintro ⟨⟨#HR, #Hlev⟩, ⟨HO, HF, HF', ⟨%f, Hs⟩⟩, Hk⟩
  iapply (step_wwait m c (dq 1) 0 (perm c 6) _ (low (lv_o5 c)) rfl) $$ [HO HF]
  · iframe # HO HF
  iintro ⟨Hh, Hw, Hv, HO⟩
  iapply (step_loadW c 0 _ rfl) $$ Hh
  iintro Hh
  iapply (step_load_any c 6 fullShare f rfl) $$ Hs
  iintro %_ Hs
  iapply (step_store c 6 f (tileOf m c 6) rfl) $$ Hs
  iintro Hs
  iapply (step_wwait m c (dq 2) 1 (perm c 7) _ (low (lv_o5 c)) rfl) $$ [HO HF']
  · iframe # HO HF'
  iintro ⟨Hh', Hw', Hv', HO⟩
  iapply (step_loadW c 1 _ rfl) $$ Hh'
  iintro Hh'
  iapply (WP_ret c)
  unfold ch; iapply Hk
  unfold slotE; rw [E_own m c 6 (by decide)]
  iframe HO Hs Hw Hw' Hv Hv'
  isplitl [Hh]
  · iexists _; iexact Hh
  iexists _; iexact Hh'

set_option maxHeartbeats 1000000 in
theorem part11 (v2 v5 v8 v9 v13 v292) (Kt) :
    iprop(ctx m K ∗ (ow c (o5 c) ∗ slotAny c 7 ∗ cr c (dq 5) ∗ at0 c (dq 5))
        ∗ (∀ v335, iprop(ow c (o5 c) ∗ slotE m c 7 fullShare ∗ at1 c (dq 5) ∗ slotE m c (sX c 0) fullShare)
          -∗ Kt ⟨k0_pay28 v292 (k0_pay25 (xv m c) (ch m c 7)), v335, 0#32⟩))
      ⊢ WP c (k0_part11 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v9 v13 v292 (k0_pay25 (xv m c) (ch m c 7))) Kt := by
  simp only [k0_part11_eq_skeleton]; unfold k0_part11_skel
  simp only [Prog.lift, Prog.bind_op, Prog.bind_ret, Prog.pure_eq_ret]
  unfold ctx slotAny
  iintro ⟨⟨#HR, #Hlev⟩, ⟨HO, ⟨%f, Hs⟩, Hc, Hat⟩, Hk⟩
  iapply (step_load_any c 7 fullShare f rfl) $$ Hs
  iintro %_ Hs
  iapply (step_store c 7 f (tileOf m c 7) rfl) $$ Hs
  iintro Hs
  iapply (step_wait m K c (dq 5) (by decide) _ (lv_o5 c) (sX c 0) fullShare rfl rfl rfl) $$ [HO Hc Hat]
  · iframe # HO Hc Hat
  iintro ⟨HO, Hat, Hp⟩
  iapply (WP_ret c)
  iapply Hk
  unfold slotE; rw [E_own m c 7 (by decide)]
  iframe HO Hs Hat Hp

end Cert.KernelIdeal.Run
-- ==== Proof.PartsB.lean ====
/-
# The kernel's second half: sends along `y` and `z`, the last sums, the send waits, and the scaled tiles

Each lemma runs one stretch of the kernel on device `c`, from what it needs to what it leaves.
-/
module

public import proofs.«01_k».proof.Proof.PartsA
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- A slot at a share is the slot at the share's two halves. -/
theorem slot_split (k : ℕ) (sh : PosShare TreeShare) (f : S16x512x1024.Idx → Elt F .bf16) :
    (slotPts c k sh f : sProp 𝕄) ⊣⊢ iprop(slotPts c k sh.left f ∗ slotPts c k sh.right f) := by
  unfold slotPts; exact pointsTo_share (PosShare.mem_left_op_right sh)

set_option maxHeartbeats 1000000 in
theorem part12 (v2 v5 v8 v10 v11 v13 v335 w) (Kt) :
    iprop(ctx m K ∗ (ow c (o5 c) ∗ (slotE m c (sX c 0) fullShare.right.left ∗ zone (nY c) 9 ∗ tk c (dq 7) ∗ tk (nY c) (dq 9)) ∗ slotE m c (sX c 0) fullShare.left ∗ zone (nZ c) (zOwn c 0).val ∗ tk c (sOwn c 0) ∗ tk (nZ c) (zOwn c 0))
        ∗ (iprop(ow c (o7 c) ∗ cr c (dq 7) ∗ cr c (sOwn c 0)) -∗ Kt (2#32)))
      ⊢ WP c (k0_part12 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v10 v11 v13 v335 w) Kt := by
  simp only [k0_part12_eq_skeleton]; unfold k0_part12_skel
  simp only [Prog.lift, Prog.bind_op, Prog.bind_ret, Prog.pure_eq_ret]
  unfold ctx
  iintro ⟨⟨#HR, #Hlev⟩, ⟨HO, ⟨HsY, HzY, HtY, HtY'⟩, HsZ, HzZ, HtZ, HtZ'⟩, Hk⟩
  iapply (step_send m K c _ (nY c) (dq 7) (dq 9) (by decide) (by decide) _ (sX c 0) fullShare.right.left rfl rfl rfl
      ((congrArg _ (slot_ry c 0)).trans (E_nY m c _ (sX_ge c 0))) (off2_sX c 0) ((off2_sX c 0).trans (by rw [← slot_ry c 0]; rfl)) rfl rfl (dev6_eq c)) $$ [HO HsY HzY HtY HtY']
  · iframe # HO HsY HzY HtY HtY'
  iintro ⟨HcY, HO⟩
  iapply (step_send m K c _ (nZ c) (sOwn c 0) (zOwn c 0) (far_sOwn c 0) (far_zOwn c 0) _ (sX c 0) fullShare.left (slot_sOwn c 0) (share_sOwn c 0) (share_zOwn c 0)
      ((congrArg _ (slot_zOwn c 0)).trans (E_nZ m c _ (sX_ge c 0))) (off2_sX c 0) ((off2_sX c 0).trans (by rw [← slot_zOwn c 0])) (sem_off3 c 0 _) (sem_off3' c 0 _) (dev7_eq c)) $$ [HO HsZ HzZ HtZ HtZ']
  · iframe # HO HsZ HzZ HtZ HtZ'
  iintro ⟨HcZ, HO⟩
  iapply (WP_ret c)
  iapply Hk
  iframe HO HcY HcZ

set_option maxHeartbeats 1000000 in
theorem part13 (v5 v8 v9 v13 v313 w) (Kt) :
    iprop(ctx m K ∗ (ow c (o7 c) ∗ slotE m c (sX c 0) fullShare.right.right ∗ cr c (dq 6) ∗ at0 c (dq 6))
        ∗ (iprop(ow c (o7 c) ∗ slotE m c (sX c 0) fullShare.right.right ∗ at1 c (dq 6) ∗ slotE m c (sX c 1) fullShare) -∗ Kt ⟨k0_pay29 v313 (E m c (sX c 0)), 4#32⟩))
      ⊢ WP c (k0_part13 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v5 v8 v9 v13 v313 w) Kt := by
  simp only [k0_part13_eq_skeleton]; unfold k0_part13_skel
  simp only [Prog.lift, Prog.bind_op, Prog.bind_ret, Prog.pure_eq_ret]
  unfold ctx
  iintro ⟨⟨#HR, #Hlev⟩, ⟨HO, Hs, Hc, Hat⟩, Hk⟩
  iapply (step_load c (sX c 0) fullShare.right.right (E m c (sX c 0)) (off4_sX c 0)) $$ Hs
  iintro Hs
  iapply (step_wait m K c (dq 6) (by decide) _ (lv_o7 c) (sX c 1) fullShare rfl rfl rfl) $$ [HO Hc Hat]
  · iframe # HO Hc Hat
  iintro ⟨HO, Hat, Hp⟩
  iapply (WP_ret c)
  iapply Hk
  iframe HO Hs Hat Hp

set_option maxHeartbeats 1000000 in
theorem part14 (v2 v5 v8 v10 v11 v13 w) (Kt) :
    iprop(ctx m K ∗ (ow c (o7 c) ∗ slotE m c (sX c 1) fullShare.right.left ∗ zone (nY c) 10 ∗ tk c (dq 8) ∗ tk (nY c) (dq 10))
        ∗ (iprop(ow c (o8 c) ∗ cr c (dq 8)) -∗ Kt ⟨⟩))
      ⊢ WP c (k0_part14 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v10 v11 v13 w) Kt := by
  simp only [k0_part14_eq_skeleton]; unfold k0_part14_skel
  simp only [Prog.lift, Prog.bind_op, Prog.bind_ret, Prog.pure_eq_ret]
  unfold ctx
  iintro ⟨⟨#HR, #Hlev⟩, ⟨HO, HsY, HzY, HtY, HtY'⟩, Hk⟩
  iapply (step_send m K c _ (nY c) (dq 8) (dq 10) (by decide) (by decide) _ (sX c 1) fullShare.right.left rfl rfl rfl
      ((congrArg _ (slot_ry c 1)).trans (E_nY m c _ (sX_ge c 1))) (off2_sX c 1) ((off2_sX c 1).trans (by rw [← slot_ry c 1]; rfl)) rfl rfl (dev8_eq c)) $$ [HO HsY HzY HtY HtY']
  · iframe # HO HsY HzY HtY HtY'
  iintro ⟨HcY, HO⟩
  iapply (WP_ret c)
  iapply Hk
  iframe HO HcY

set_option maxHeartbeats 1000000 in
theorem part15 (v2 v5 v8 v10 v13 v16 v380) (Kt) :
    iprop(ctx m K ∗ (ow c (o8 c) ∗ (slotE m c (sX c 1) fullShare.left ∗ zone (nZ c) (zOwn c 1).val ∗ tk c (sOwn c 1) ∗ tk (nZ c) (zOwn c 1)) ∗ slotE m c (sX c 1) fullShare.right.right ∗ cr c (dq 9) ∗ at0 c (dq 9))
        ∗ (iprop(ow c (o9 c) ∗ cr c (sOwn c 1) ∗ slotE m c (sX c 1) fullShare.right.right ∗ at1 c (dq 9) ∗ slotE m c (sY c 0) fullShare) -∗ Kt ⟨k0_pay30 v380 (E m c (sX c 1)), 2#32⟩))
      ⊢ WP c (k0_part15 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v10 v13 v16 v380) Kt := by
  simp only [k0_part15_eq_skeleton]; unfold k0_part15_skel
  simp only [Prog.lift, Prog.bind_op, Prog.bind_ret, Prog.pure_eq_ret]
  unfold ctx
  iintro ⟨⟨#HR, #Hlev⟩, ⟨HO, ⟨HsZ, HzZ, HtZ, HtZ'⟩, Hs, Hc, Hat⟩, Hk⟩
  iapply (step_send m K c _ (nZ c) (sOwn c 1) (zOwn c 1) (far_sOwn c 1) (far_zOwn c 1) _ (sX c 1) fullShare.left (slot_sOwn c 1) (share_sOwn c 1) (share_zOwn c 1)
      ((congrArg _ (slot_zOwn c 1)).trans (E_nZ m c _ (sX_ge c 1))) (off2_sX c 1) ((off2_sX c 1).trans (by rw [← slot_zOwn c 1])) (sem_off3 c 1 _) (sem_off3' c 1 _) (dev9_eq c)) $$ [HO HsZ HzZ HtZ HtZ']
  · iframe # HO HsZ HzZ HtZ HtZ'
  iintro ⟨HcZ, HO⟩
  iapply (step_load c (sX c 1) fullShare.right.right (E m c (sX c 1)) (off4_sX c 1)) $$ Hs
  iintro Hs
  iapply (step_wait m K c (dq 9) (by decide) _ (lv_o9 c) (sY c 0) fullShare rfl rfl rfl) $$ [HO Hc Hat]
  · iframe # HO Hc Hat
  iintro ⟨HO, Hat, Hp⟩
  iapply (WP_ret c)
  iapply Hk
  iframe HO HcZ Hs Hat Hp

set_option maxHeartbeats 1000000 in
theorem part16 (v2 v5 v10 v11 v16 v447 w) (Kt) :
    iprop(ctx m K ∗ (ow c (o9 c) ∗ (slotE m c (sY c 0) fullShare.left ∗ zone (nZ c) (zOth c 0).val ∗ tk c (sOth c 0) ∗ tk (nZ c) (zOth c 0)) ∗ slotE m c (sY c 0) fullShare.right)
        ∗ (∀ v502, iprop(ow c (o10 c) ∗ cr c (sOth c 0) ∗ slotE m c (sY c 0) fullShare.right) -∗ Kt ⟨k0_pay31 v447 (E m c (sY c 0)), v502⟩))
      ⊢ WP c (k0_part16 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v10 v11 v16 v447 w) Kt := by
  simp only [k0_part16_eq_skeleton]; unfold k0_part16_skel
  simp only [Prog.lift, Prog.bind_op, Prog.bind_ret, Prog.pure_eq_ret]
  unfold ctx
  iintro ⟨⟨#HR, #Hlev⟩, ⟨HO, ⟨HsZ, HzZ, HtZ, HtZ'⟩, Hs⟩, Hk⟩
  iapply (step_send m K c _ (nZ c) (sOth c 0) (zOth c 0) (far_sOth c 0) (far_zOth c 0) _ (sY c 0) fullShare.left (slot_sOth c 0) (share_sOth c 0) (share_zOth c 0)
      ((congrArg _ (slot_zOth c 0)).trans (E_nZ m c _ (sY_ge c 0))) (off5_sY c 0) ((off5_sY c 0).trans (by rw [← slot_zOth c 0])) (sem_off6 c 0 _) (sem_off6' c 0 _) (dev10_eq c)) $$ [HO HsZ HzZ HtZ HtZ']
  · iframe # HO HsZ HzZ HtZ HtZ'
  iintro ⟨HcZ, HO⟩
  iapply (step_load c (sY c 0) fullShare.right (E m c (sY c 0)) (off7_sY c 0)) $$ Hs
  iintro Hs
  iapply (WP_ret c)
  iapply Hk
  iframe HO HcZ Hs

set_option maxHeartbeats 1000000 in
theorem part17 (v2 v5 v8 v11 v16 v502) (Kt) :
    iprop(ctx m K ∗ (ow c (o10 c) ∗ cr c (dq 10) ∗ at0 c (dq 10) ∗ zone (nZ c) (zOth c 1).val ∗ tk c (sOth c 1) ∗ tk (nZ c) (zOth c 1))
        ∗ (∀ v535, iprop(ow c [] ∗ cr c (sOth c 1) ∗ at1 c (dq 10) ∗ slotE m c (sY c 1) fullShare.right) -∗ Kt ⟨v535, 1#32⟩))
      ⊢ WP c (k0_part17 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v11 v16 v502) Kt := by
  simp only [k0_part17_eq_skeleton]; unfold k0_part17_skel
  simp only [Prog.lift, Prog.bind_op, Prog.bind_ret, Prog.pure_eq_ret]
  unfold ctx
  iintro ⟨⟨#HR, #Hlev⟩, ⟨HO, Hc, Hat, HzZ, HtZ, HtZ'⟩, Hk⟩
  iapply (step_wait m K c (dq 10) (by decide) _ (lv_o10 c) (sY c 1) fullShare rfl rfl rfl) $$ [HO Hc Hat]
  · iframe # HO Hc Hat
  iintro ⟨HO, Hat, Hp⟩
  ihave Hp2 := (slot_split c (sY c 1) fullShare (spread (E m c (sY c 1)))).1 $$ Hp
  icases Hp2 with ⟨HsZ, Hs⟩
  iapply (step_send m K c _ (nZ c) (sOth c 1) (zOth c 1) (far_sOth c 1) (far_zOth c 1) _ (sY c 1) fullShare.left (slot_sOth c 1) (share_sOth c 1) (share_zOth c 1)
      ((congrArg _ (slot_zOth c 1)).trans (E_nZ m c _ (sY_ge c 1))) (off5_sY c 1) ((off5_sY c 1).trans (by rw [← slot_zOth c 1])) (sem_off6 c 1 _) (sem_off6' c 1 _) (dev11_eq c)) $$ [HO HsZ HzZ HtZ HtZ']
  · iframe # HO HsZ HzZ HtZ HtZ'
  iintro ⟨HcZ, HO⟩
  iapply (WP_ret c)
  iapply Hk
  iframe HO HcZ Hat Hs

end Cert.KernelIdeal.Run
-- ==== Proof.PartsC.lean ====
/-
# The last sums, the send waits, the scaled tiles and their way to the result

The loop that adds the four tiles that arrived along `z`, the waits for the device's own sends, the loop that scales the
sixteen tiles and starts their copies to the result, and the waits for those copies.
-/
module

public import proofs.«01_k».proof.Proof.PartsB
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- Arrival semaphore `i` along `z`; the semaphore of the copy of tile `k` to the result. -/
def rzq (i : Fin 4) : DmaSem sig := ⟨15 + i.val, by have := i.isLt; show _ < 35; omega⟩
def outq (k : Fin 16) : DmaSem sig := ⟨19 + k.val, by have := k.isLt; show _ < 35; omega⟩
theorem far_rzq (i : Fin 4) : Far (rzq i).val := by revert i; decide
theorem share_rzq (i : Fin 4) : shareOf (rzq i).val = fullShare := by
  have := i.isLt; unfold shareOf rzq; rw [if_neg (by simp only; omega), if_neg (by simp only; omega)]

theorem trips1 : k0_t1_loop.trips = 4 := by decide
theorem trips2 : k0_t2_loop.trips = 16 := by decide

/-- The row sums `S` with the first `n` of the four tiles that arrived along `z` added. -/
def rs (S : FVec F S512x1 .f32) : ℕ → FVec F S512x1 .f32
  | 0 => S
  | n + 1 => k0_pay33 (rs S n) (E m c (slotOf c (15 + n)))

/-- An arrival along `z` before and after its wait. -/
def zTodo (i : Fin 4) : sProp 𝕄 := iprop(cr c (rzq i) ∗ at0 c (rzq i))
def zDone (i : Fin 4) : sProp 𝕄 := iprop(at1 c (rzq i) ∗ slotE m c (slotOf c (15 + i.val)) fullShare)

def inv1 (S : FVec F S512x1 .f32) (k : ℕ) (acc : FVec F S512x1 .f32) : sProp 𝕄 :=
  iprop(ctx m K ∗ ⌜acc = rs m c S k⌝ ∗ ow c [] ∗ bigSep (finUpTo 4 k) (zDone m c) ∗ bigSep (finFrom 4 k) (zTodo c))

/-- The scaled tile of slot `k`. -/
def scaled (R : FVec F S512x1 .f32) (k : ℕ) : S1x512x1024.Idx → Elt F .bf16 := k0_pay35 R (E m c k)
/-- A tile of the result before its copy, on its way, and after. -/
def oTodo (k : Fin 16) : sProp 𝕄 := iprop(slotE m c k.val fullShare ∗ (∃ f, outPts c (outBlk c k.val) f) ∗ sv c (outq k))
def oGo (R : FVec F S512x1 .f32) (k : Fin 16) : sProp 𝕄 := oFly c (outq k) k.val (outBlk c k.val) (scaled m c R k.val)
def oDone (R : FVec F S512x1 .f32) (k : Fin 16) : sProp 𝕄 :=
  iprop(outPts c (outBlk c k.val) (spreadO (scaled m c R k.val)) ∗ slotPts c k.val fullShare (spread (scaled m c R k.val)) ∗ sv c (outq k))
def inv2 (R : FVec F S512x1 .f32) (k : ℕ) : sProp 𝕄 := iprop(bigSep (finUpTo 16 k) (oGo m c R) ∗ bigSep (finFrom 16 k) (oTodo m c))

set_option maxHeartbeats 1000000 in
theorem trip1 (v2 v5 v8 v11 v495 v535 w) (S : FVec F S512x1 .f32) (k : Fin k0_t1_loop.trips) (acc : FVec F S512x1 .f32) :
    inv1 m K c S k.val acc ⊢ WP c (k0_t1_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v11 v495 v535 w k acc) (inv1 m K c S (k.val + 1)) := by
  unfold k0_t1_body
  simp only [Prog.lift, Prog.bind_op, Prog.bind_ret, Prog.pure_eq_ret]
  unfold inv1 ctx
  rw [bigSep_finUpTo_cast trips1 k, bigSep_finFrom_cast trips1 k]
  unfold zTodo zDone
  iintro ⟨⟨#HR, #Hlev⟩, %hacc, HO, Hd, ⟨Hc, Ha⟩, Ht⟩
  subst hacc
  iapply (step_wait m K c (rzq (k.cast trips1)) (far_rzq _) _ lv_nil (slotOf c (15 + k.val)) fullShare rfl (share_rzq _) (sem_off8 k _)) $$ [HO Hc Ha]
  · iframe # HO Hc Ha
  iintro ⟨HO, Ha, Hp⟩
  iapply (step_load c (slotOf c (15 + k.val)) fullShare (E m c (slotOf c (15 + k.val))) (off10_slot c k)) $$ Hp
  iintro Hp
  iapply (WP_ret c)
  isplitr
  · iframe #
  isplitr
  · ipureintro; rfl
  iframe HO Ht
  isplitl [Ha Hp]
  · iframe Ha Hp
  iexact Hd

set_option maxHeartbeats 1000000 in
theorem loop1 (v2 v5 v8 v11 v495 v535 w) (S : FVec F S512x1 .f32) {α : Type} {kk : FVec F S512x1 .f32 → Prog (TpuEff nD τ sig (Elt F) Λ₀ .tc) α}
    {Q : α → sProp (MT nD τ sig Unit (Elt F) ℕ UU ℕ)} :
    iprop(ctx m K ∗ ow c [] ∗ bigSep Finset.univ (zTodo (F := F) c))
      ⊢ iprop((iprop(ow c [] ∗ bigSep Finset.univ (zDone m c)) -∗ WP c (kk (rs m c S 4)) Q)
        -∗ WP c (Scf.Loop.for k0_t1_loop k0_t1_ok S (k0_t1_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v11 v495 v535 w) >>= kk) Q) := by
  iintro ⟨#HC, HO, Ht⟩ Hk
  iapply (Scf.wp_for_bind _ _ _ _ _ _ _ S _ (inv1 m K c S) (trip1 m K c v2 v5 v8 v11 v495 v535 w S)) $$ [HO Ht]
  · unfold inv1
    rw [bigSep_finUpTo_zero, finFrom_zero]
    iframe # HO Ht
    ipureintro; rfl
  iintro %acc H
  unfold inv1
  rw [show Scf.trips _ _ _ = 4 from trips1, bigSep_finUpTo_self, bigSep_finFrom_self]
  icases H with ⟨-, %hacc, HO, Hd, -⟩
  subst hacc
  iapply Hk
  iframe HO Hd

set_option maxHeartbeats 1000000 in
theorem trip2 (v2 v13) (R : FVec F S512x1 .f32) (k : Fin k0_t2_loop.trips) (acc : Unit) :
    inv2 m c R k.val ⊢ WP c (k0_t2_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13 R k acc) (fun _ => inv2 m c R (k.val + 1)) := by
  unfold k0_t2_body
  simp only [Prog.lift, Prog.bind_op, Prog.bind_ret, Prog.pure_eq_ret]
  unfold inv2
  rw [bigSep_finUpTo_cast trips2 k, bigSep_finFrom_cast trips2 k]
  unfold oTodo oGo
  simp only [Fin.val_cast]
  iintro ⟨Hd, ⟨Hs, ⟨%f, Ho⟩, Hv⟩, Ht⟩
  iapply (step_load c k.val fullShare (E m c k.val) (k0_off11_eq k)) $$ Hs
  iintro Hs
  iapply (step_load c k.val fullShare (E m c k.val) (k0_off11_eq k)) $$ Hs
  iintro Hs
  iapply (step_store c k.val (spread (E m c k.val)) (scaled m c R k.val) (k0_off11_eq k)) $$ Hs
  iintro Hs
  iapply (step_ocopy c (outq (k.cast trips2)) k.val (outBlk c k.val) (scaled m c R k.val) f (k0_off14_eq k) (off13_out c k) (sem_off12 k _)) $$ [Hs Ho Hv]
  · iframe Hs Ho Hv
  iintro HF
  iapply (WP_ret c)
  iframe Ht
  isplitl [HF]
  · iexact HF
  iexact Hd

set_option maxHeartbeats 1000000 in
theorem loop2 (v2 v13) (R : FVec F S512x1 .f32) {α : Type} {kk : Unit → Prog (TpuEff nD τ sig (Elt F) Λ₀ .tc) α}
    {Q : α → sProp (MT nD τ sig Unit (Elt F) ℕ UU ℕ)} :
    bigSep Finset.univ (oTodo m c)
      ⊢ iprop((bigSep Finset.univ (oGo m c R) -∗ WP c (kk ()) Q)
        -∗ WP c (Scf.Loop.for k0_t2_loop k0_t2_ok () (k0_t2_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13 R) >>= kk) Q) := by
  iintro Ht Hk
  iapply (Scf.wp_for_bind _ _ _ _ _ _ _ () _ (fun k _ => inv2 m c R k) (trip2 m c v2 v13 R)) $$ [Ht]
  · unfold inv2
    rw [bigSep_finUpTo_zero, finFrom_zero]
    iframe Ht
  iintro %acc H
  unfold inv2
  rw [show Scf.trips _ _ _ = 16 from trips2, bigSep_finUpTo_self, bigSep_finFrom_self]
  icases H with ⟨Hd, -⟩
  iapply Hk
  iexact Hd

set_option maxHeartbeats 1000000 in
theorem part18 (v2 v5 v8 v11 v495 v535 w) (Kt) :
    iprop(ctx m K ∗ (ow c [] ∗ slotE m c (sY c 1) fullShare.right ∗ bigSep Finset.univ (zTodo (F := F) c) ∗ cr c (dq 3) ∗ at0 c (dq 3) ∗ cr c (dq 7) ∗ at0 c (dq 7))
        ∗ (iprop(ow c [] ∗ slotE m c (sY c 1) fullShare.right ∗ bigSep Finset.univ (zDone m c) ∗ at1 c (dq 3) ∗ slotE m c 0 fullShare ∗ at1 c (dq 7) ∗ slotE m c (sX c 0) fullShare.right.left) -∗ Kt (k0_pay34 (rs m c (k0_pay32 v495 (E m c (sY c 1))) 4))))
      ⊢ WP c (k0_part18 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v5 v8 v11 v495 v535 w) Kt := by
  simp only [k0_part18_eq_skeleton]; unfold k0_part18_skel
  simp only [Prog.lift, Prog.bind_op, Prog.bind_ret, Prog.pure_eq_ret]
  unfold ctx
  iintro ⟨⟨#HR, #Hlev⟩, ⟨HO, Hs, Hz, Hc, Ha, Hc', Ha'⟩, Hk⟩
  iapply (step_load c (sY c 1) fullShare.right (E m c (sY c 1)) (off7_sY c 1)) $$ Hs
  iintro Hs
  iapply (loop1 m K c v2 v5 v8 v11 v495 v535 w _) $$ [HO Hz]
  · unfold ctx; iframe # HO Hz
  iintro ⟨HO, Hz⟩
  iapply (step_wait m K c (dq 3) (by decide) _ (lv_nil) (0) fullShare rfl rfl rfl) $$ [HO Hc Ha]
  · iframe # HO Hc Ha
  iintro ⟨HO, Ha, Hp⟩
  iapply (step_wait m K c (dq 7) (by decide) _ (lv_nil) (sX c 0) fullShare.right.left rfl rfl rfl) $$ [HO Hc' Ha']
  · iframe # HO Hc' Ha'
  iintro ⟨HO, Ha', Hp'⟩
  iapply (WP_ret c)
  iapply Hk
  iframe HO Hs Hz Ha Hp Ha' Hp'

set_option maxHeartbeats 1000000 in
theorem part19 (Kt) :
    iprop(ctx m K ∗ (ow c [] ∗ cr c (dq 4) ∗ at0 c (dq 4) ∗ cr c (dq 8) ∗ at0 c (dq 8) ∗ cr c (dq 11) ∗ at0 c (dq 11) ∗ cr c (dq 12) ∗ at0 c (dq 12))
        ∗ (iprop(ow c [] ∗ at1 c (dq 4) ∗ slotE m c (1) fullShare ∗ at1 c (dq 8) ∗ slotE m c (sX c 1) fullShare.right.left ∗ at1 c (dq 11) ∗ slotE m c (slotOf c 11) fullShare.left ∗ at1 c (dq 12) ∗ slotE m c (slotOf c 12) fullShare.left) -∗ Kt ⟨⟩))
      ⊢ WP c (k0_part19 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 ) Kt := by
  simp only [k0_part19_eq_skeleton]; unfold k0_part19_skel
  simp only [Prog.lift, Prog.bind_op, Prog.bind_ret, Prog.pure_eq_ret]
  unfold ctx
  iintro ⟨⟨#HR, #Hlev⟩, ⟨HO, Hc4, Ha4, Hc8, Ha8, Hc11, Ha11, Hc12, Ha12⟩, Hk⟩
  iapply (step_wait m K c (dq 4) (by decide) _ (lv_nil) (1) fullShare rfl rfl rfl) $$ [HO Hc4 Ha4]
  · iframe # HO Hc4 Ha4
  iintro ⟨HO, Ha4, Hp4⟩
  iapply (step_wait m K c (dq 8) (by decide) _ (lv_nil) (sX c 1) fullShare.right.left rfl rfl rfl) $$ [HO Hc8 Ha8]
  · iframe # HO Hc8 Ha8
  iintro ⟨HO, Ha8, Hp8⟩
  iapply (step_wait m K c (dq 11) (by decide) _ (lv_nil) (slotOf c 11) fullShare.left rfl rfl rfl) $$ [HO Hc11 Ha11]
  · iframe # HO Hc11 Ha11
  iintro ⟨HO, Ha11, Hp11⟩
  iapply (step_wait m K c (dq 12) (by decide) _ (lv_nil) (slotOf c 12) fullShare.left rfl rfl rfl) $$ [HO Hc12 Ha12]
  · iframe # HO Hc12 Ha12
  iintro ⟨HO, Ha12, Hp12⟩
  iapply (WP_ret c)
  iapply Hk
  iframe HO Ha4 Hp4 Ha8 Hp8 Ha11 Hp11 Ha12 Hp12

set_option maxHeartbeats 1000000 in
/-- The last two send waits, and then all sixteen tiles are on their way. `P` is what else is held; with what the waits
    hand back it makes the sixteen slots whole. -/
theorem part20 (v2 v13) (R : FVec F S512x1 .f32) (P : sProp (MT nD τ sig Unit (Elt F) ℕ UU ℕ))
    (hP : iprop(P ∗ slotE m c (slotOf c 13) fullShare.left ∗ slotE m c (slotOf c 14) fullShare.left) ⊢ bigSep Finset.univ (oTodo m c)) (Kt) :
    iprop(ctx m K ∗ (ow c [] ∗ P ∗ cr c (dq 13) ∗ at0 c (dq 13) ∗ cr c (dq 14) ∗ at0 c (dq 14))
        ∗ (iprop(ow c [] ∗ at1 c (dq 13) ∗ at1 c (dq 14) ∗ bigSep Finset.univ (oGo m c R)) -∗ Kt ⟨⟩))
      ⊢ WP c (k0_part20 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13 R) Kt := by
  simp only [k0_part20_eq_skeleton]; unfold k0_part20_skel
  simp only [Prog.lift, Prog.bind_op, Prog.bind_ret, Prog.pure_eq_ret]
  unfold ctx
  iintro ⟨⟨#HR, #Hlev⟩, ⟨HO, HP, Hc13, Ha13, Hc14, Ha14⟩, Hk⟩
  iapply (step_wait m K c (dq 13) (by decide) _ (lv_nil) (slotOf c 13) fullShare.left rfl rfl rfl) $$ [HO Hc13 Ha13]
  · iframe # HO Hc13 Ha13
  iintro ⟨HO, Ha13, Hp13⟩
  iapply (step_wait m K c (dq 14) (by decide) _ (lv_nil) (slotOf c 14) fullShare.left rfl rfl rfl) $$ [HO Hc14 Ha14]
  · iframe # HO Hc14 Ha14
  iintro ⟨HO, Ha14, Hp14⟩
  ihave Ht := hP $$ [HP Hp13 Hp14]
  · iframe HP Hp13 Hp14
  iapply (loop2 m c v2 v13 R) $$ Ht
  iintro Hd
  iapply (WP_ret c)
  iapply Hk
  iframe HO Ha13 Ha14 Hd

set_option maxHeartbeats 1000000 in
theorem part21 (v2 v13 R) (Kt) :
    iprop(ctx m K ∗ (ow c [] ∗ oGo m c R 0 ∗ oGo m c R 1)
        ∗ (iprop(ow c [] ∗ oDone m c R 0 ∗ oDone m c R 1) -∗ Kt ⟨⟩))
      ⊢ WP c (k0_part21 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part21_eq_skeleton]; unfold k0_part21_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 0) 0 _ (scaled m c R 0) rfl) $$ [HO HF]
  · iframe # HO HF
  iintro ⟨Ho, Hs, Hv, HO⟩
  iapply (step_owait c (outq 1) 1 _ (scaled m c R 1) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part22 (v2 v13 R) (Kt) :
    iprop(ctx m K ∗ (ow c [] ∗ oGo m c R 2 ∗ oGo m c R 3)
        ∗ (iprop(ow c [] ∗ oDone m c R 2 ∗ oDone m c R 3) -∗ Kt ⟨⟩))
      ⊢ WP c (k0_part22 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part22_eq_skeleton]; unfold k0_part22_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 2) 2 _ (scaled m c R 2) rfl) $$ [HO HF]
  · iframe # HO HF
  iintro ⟨Ho, Hs, Hv, HO⟩
  iapply (step_owait c (outq 3) 3 _ (scaled m c R 3) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part23 (v2 v13 R) (Kt) :
    iprop(ctx m K ∗ (ow c [] ∗ oGo m c R 4 ∗ oGo m c R 5)
        ∗ (iprop(ow c [] ∗ oDone m c R 4 ∗ oDone m c R 5) -∗ Kt ⟨⟩))
      ⊢ WP c (k0_part23 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part23_eq_skeleton]; unfold k0_part23_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 4) 4 _ (scaled m c R 4) rfl) $$ [HO HF]
  · iframe # HO HF
  iintro ⟨Ho, Hs, Hv, HO⟩
  iapply (step_owait c (outq 5) 5 _ (scaled m c R 5) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part24 (v2 v13 R) (Kt) :
    iprop(ctx m K ∗ (ow c [] ∗ oGo m c R 6 ∗ oGo m c R 7)
        ∗ (iprop(ow c [] ∗ oDone m c R 6 ∗ oDone m c R 7) -∗ Kt ⟨⟩))
      ⊢ WP c (k0_part24 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part24_eq_skeleton]; unfold k0_part24_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 6) 6 _ (scaled m c R 6) rfl) $$ [HO HF]
  · iframe # HO HF
  iintro ⟨Ho, Hs, Hv, HO⟩
  iapply (step_owait c (outq 7) 7 _ (scaled m c R 7) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part25 (v2 v13 R) (Kt) :
    iprop(ctx m K ∗ (ow c [] ∗ oGo m c R 8 ∗ oGo m c R 9)
        ∗ (iprop(ow c [] ∗ oDone m c R 8 ∗ oDone m c R 9) -∗ Kt ⟨⟩))
      ⊢ WP c (k0_part25 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part25_eq_skeleton]; unfold k0_part25_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 8) 8 _ (scaled m c R 8) rfl) $$ [HO HF]
  · iframe # HO HF
  iintro ⟨Ho, Hs, Hv, HO⟩
  iapply (step_owait c (outq 9) 9 _ (scaled m c R 9) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part26 (v2 v13 R) (Kt) :
    iprop(ctx m K ∗ (ow c [] ∗ oGo m c R 10 ∗ oGo m c R 11)
        ∗ (iprop(ow c [] ∗ oDone m c R 10 ∗ oDone m c R 11) -∗ Kt ⟨⟩))
      ⊢ WP c (k0_part26 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part26_eq_skeleton]; unfold k0_part26_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 10) 10 _ (scaled m c R 10) rfl) $$ [HO HF]
  · iframe # HO HF
  iintro ⟨Ho, Hs, Hv, HO⟩
  iapply (step_owait c (outq 11) 11 _ (scaled m c R 11) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

set_option maxHeartbeats 1000000 in
theorem part27 (v2 v13 R) (Kt) :
    iprop(ctx m K ∗ (ow c [] ∗ oGo m c R 12 ∗ oGo m c R 13)
        ∗ (iprop(ow c [] ∗ oDone m c R 12 ∗ oDone m c R 13) -∗ Kt ⟨⟩))
      ⊢ WP c (k0_part27 (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9 c v2 v13) Kt := by
  simp only [k0_part27_eq_skeleton]; unfold k0_part27_skel
  simp only [Prog.lift, Prog.bind_op, Prog.bind_ret, Prog.pure_eq_ret]
  unfold ctx
  iintro ⟨⟨#HR, #Hlev⟩, ⟨HO, HF, HF'⟩, Hk⟩
  unfold oGo oDone
  iapply (step_owait c (outq 12) 12 _ (scaled m c R 12) rfl) $$ [HO HF]
  · iframe # HO HF
  iintro ⟨Ho, Hs, Hv, HO⟩
  iapply (step_owait c (outq 13) 13 _ (scaled m c R 13) rfl) $$ [HO HF']
  · iframe # HO HF'
  iintro ⟨Ho', Hs', Hv', HO⟩
  iapply (WP_ret c)
  iapply Hk
  iframe HO
  isplitl [Ho Hs Hv]
  · iframe Ho Hs Hv
  iframe Ho' Hs' Hv'

end Cert.KernelIdeal.Run
-- ==== Proof.Regroup.lean ====
/-
# Regrouping

The same resources, listed in the order the protocol numbers them and in the order a device uses them.
-/
module

public import proofs.«01_k».proof.Proof.PartsC
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- Two lists of the same members hold the same. -/
theorem listed {I : Type} [DecidableEq I] {l l' : List I} (hp : l.Perm l') (hn : l.Nodup) (Φ : I → sProp (MT nD τ sig Unit (Elt F) ℕ UU ℕ)) :
    bigSepL l Φ = bigSepL l' Φ := by
  rw [← bigSep_eq_bigSepL_of_eq l rfl hn Φ, ← bigSep_eq_bigSepL_of_eq l' (List.toFinset_eq_of_perm _ _ hp) (hp.nodup_iff.mp hn) Φ]

theorem fin16 (P : ℕ → sProp (MT nD τ sig Unit (Elt F) ℕ UU ℕ)) :
    bigSep Finset.univ (fun k : Fin 16 => P k.val) = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15) :=
  bigSep_univ_eq_bigSepL [0, 1, 2, 3, 4, 5, 6, 7, 8, 9, 10, 11, 12, 13, 14, 15] (by decide) (by decide) _
theorem fin8 (P : ℕ → sProp (MT nD τ sig Unit (Elt F) ℕ UU ℕ)) :
    bigSep Finset.univ (fun k : Fin 8 => P k.val) = iprop(P 0 ∗ P 1 ∗ P 2 ∗ P 3 ∗ P 4 ∗ P 5 ∗ P 6 ∗ P 7) :=
  bigSep_univ_eq_bigSepL [0, 1, 2, 3, 4, 5, 6, 7] (by decide) (by decide) _
theorem fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) _

/-- The semaphores along `z`, by number and by use. -/
theorem perm_z (P : DmaSem sig → sProp (MT nD τ sig Unit (Elt F) ℕ UU ℕ)) :
    iprop(P (dq 15) ∗ P (dq 16) ∗ P (dq 17) ∗ P (dq 18)) = iprop(P (zOwn c 0) ∗ P (zOwn c 1) ∗ P (zOth c 0) ∗ P (zOth c 1)) :=
  listed (l := [dq 15, dq 16, dq 17, dq 18]) (l' := [zOwn c 0, zOwn c 1, zOth c 0, zOth c 1]) (by revert c; decide) (by decide) P
theorem perm_s (P : DmaSem sig → sProp (MT nD τ sig Unit (Elt F) ℕ UU ℕ)) :
    iprop(P (dq 11) ∗ P (dq 12) ∗ P (dq 13) ∗ P (dq 14)) = iprop(P (sOwn c 0) ∗ P (sOwn c 1) ∗ P (sOth c 0) ∗ P (sOth c 1)) :=
  listed (l := [dq 11, dq 12, dq 13, dq 14]) (l' := [sOwn c 0, sOwn c 1, sOth c 0, sOth c 1]) (by revert c; decide) (by decide) P
/-- Slots 8 to 15, by number and by the copy that fills them. -/
theorem perm_slots (P : ℕ → sProp (MT nD τ sig Unit (Elt F) ℕ UU ℕ)) :
    iprop(P 8 ∗ P 9 ∗ P 10 ∗ P 11 ∗ P 12 ∗ P 13 ∗ P 14 ∗ P 15)
      = iprop(P (sX c 0) ∗ P (sX c 1) ∗ P (sY c 0) ∗ P (sY c 1) ∗ P (slotOf c 15) ∗ P (slotOf c 16) ∗ P (slotOf c 17) ∗ P (slotOf c 18)) :=
  listed (l := [8, 9, 10, 11, 12, 13, 14, 15]) (l' := [sX c 0, sX c 1, sY c 0, sY c 1, slotOf c 15, slotOf c 16, slotOf c 17, slotOf c 18]) (by revert c; decide) (by decide) P
/-- The blocks of weights, by number and in the order used. -/
theorem perm_win (P : ℕ → sProp (MT nD τ sig Unit (Elt F) ℕ UU ℕ)) :
    iprop(P 0 ∗ P 1 ∗ P 2 ∗ P 3 ∗ P 4 ∗ P 5 ∗ P 6 ∗ P 7)
      = iprop(P (perm c 0) ∗ P (perm c 1) ∗ P (perm c 2) ∗ P (perm c 3) ∗ P (perm c 4) ∗ P (perm c 5) ∗ P (perm c 6) ∗ P (perm c 7)) :=
  listed (l := [0, 1, 2, 3, 4, 5, 6, 7]) (l' := [perm c 0, perm c 1, perm c 2, perm c 3, perm c 4, perm c 5, perm c 6, perm c 7]) (by revert c; decide) (by decide) P
/-- The blocks of the result, by number and by the slot they come from. -/
theorem perm_out (P : ℕ → sProp (MT nD τ sig Unit (Elt F) ℕ UU ℕ)) :
    bigSep Finset.univ (fun k : Fin 16 => P k.val) = bigSep Finset.univ (fun k : Fin 16 => P (outBlk c k.val)) := by
  rw [fin16 P, fin16 fun k => P (outBlk c k)]
  exact listed (l := [0, 1, 2, 3, 4, 5, 6, 7, 8, 9, 10, 11, 12, 13, 14, 15])
    (l' := [outBlk c 0, outBlk c 1, outBlk c 2, outBlk c 3, outBlk c 4, outBlk c 5, outBlk c 6, outBlk c 7, outBlk c 8, outBlk c 9, outBlk c 10, outBlk c 11,
      outBlk c 12, outBlk c 13, outBlk c 14, outBlk c 15]) (by revert c; decide +kernel) (by decide) P

/-- A slot at the three shares its uses leave, whole again. -/
theorem join3 (k : ℕ) (f : S16x512x1024.Idx → Elt F .bf16) :
    iprop(slotPts c k fullShare.left f ∗ slotPts c k fullShare.right.left f ∗ slotPts c k fullShare.right.right f) ⊢ (slotPts c k fullShare f : sProp 𝕄) := by
  iintro ⟨H1, H2, H3⟩
  iapply (slot_split c k fullShare f).2
  isplitl [H1]; · iexact H1
  iapply (slot_split c k fullShare.right f).2
  isplitl [H2] <;> iassumption
theorem join2 (k : ℕ) (f : S16x512x1024.Idx → Elt F .bf16) :
    iprop(slotPts c k fullShare.left f ∗ slotPts c k fullShare.right f) ⊢ (slotPts c k fullShare f : sProp 𝕄) := (slot_split c k fullShare f).2
theorem cut3 (k : ℕ) (f : S16x512x1024.Idx → Elt F .bf16) :
    (slotPts c k fullShare f : sProp 𝕄) ⊢ iprop(slotPts c k fullShare.left f ∗ slotPts c k fullShare.right.left f ∗ slotPts c k fullShare.right.right f) := by
  iintro H
  ihave H := (slot_split c k fullShare f).1 $$ H
  icases H with ⟨H1, H⟩
  ihave H := (slot_split c k fullShare.right f).1 $$ H
  icases H with ⟨H2, H3⟩
  iframe H1 H2 H3

/-- What a device holds when all tiles have been sent, but for the last two send waits. -/
def gather : sProp 𝕄 :=
  iprop((slotE m c 0 fullShare ∗ slotE m c 1 fullShare ∗ slotE m c 2 fullShare ∗ slotE m c 3 fullShare ∗ slotE m c 4 fullShare ∗ slotE m c 5 fullShare
      ∗ slotE m c 6 fullShare ∗ slotE m c 7 fullShare)
    ∗ (slotE m c (sX c 0) fullShare.right.left ∗ slotE m c (sX c 0) fullShare.right.right)
    ∗ (slotE m c (sX c 1) fullShare.right.left ∗ slotE m c (sX c 1) fullShare.right.right)
    ∗ slotE m c (sY c 0) fullShare.right ∗ slotE m c (sY c 1) fullShare.right
    ∗ (slotE m c (slotOf c 15) fullShare ∗ slotE m c (slotOf c 16) fullShare ∗ slotE m c (slotOf c 17) fullShare ∗ slotE m c (slotOf c 18) fullShare)
    ∗ (slotE m c (slotOf c 11) fullShare.left ∗ slotE m c (slotOf c 12) fullShare.left)
    ∗ bigSep Finset.univ fun k : Fin 16 => iprop((∃ f, outPts c (outBlk c k.val) f) ∗ sv c (outq k)))

set_option maxHeartbeats 1000000 in
theorem gathered : iprop(gather m c ∗ slotE m c (slotOf c 13) fullShare.left ∗ slotE m c (slotOf c 14) fullShare.left) ⊢ bigSep Finset.univ (oTodo m c) := by
  have hs := perm_s (F := F) c fun q => slotE m c (slotOf c q.val) fullShare.left
  rw [slot_sOwn, slot_sOwn, slot_sOth, slot_sOth] at hs
  have h16 : bigSep Finset.univ (oTodo m c) = iprop((bigSep Finset.univ fun k : Fin 16 => slotE m c k.val fullShare)
      ∗ bigSep Finset.univ fun k : Fin 16 => iprop((∃ f, outPts c (outBlk c k.val) f) ∗ sv c (outq k))) := by
    rw [← bigSep_sep']; rfl
  rw [h16, fin16 fun k => slotE m c k fullShare, perm_slots c fun k => slotE m c k fullShare]
  unfold gather
  iintro ⟨⟨⟨H0, H1, H2, H3, H4, H5, H6, H7⟩, ⟨A0, B0⟩, ⟨A1, B1⟩, C0, C1, ⟨Z0, Z1, Z2, Z3⟩, ⟨L0, L1⟩, Ho⟩, L2, L3⟩
  ihave HL := (Entails.of_eq hs) $$ [L0 L1 L2 L3]
  · iframe L0 L1 L2 L3
  icases HL with ⟨L0, L1, L2, L3⟩
  iframe H0 H1 H2 H3 H4 H5 H6 H7 Z0 Z1 Z2 Z3 Ho
  isplitl [A0 B0 L0]
  · iapply (join3 c); iframe L0 A0 B0
  isplitl [A1 B1 L1]
  · iapply (join3 c); iframe L1 A1 B1
  isplitl [C0 L2]
  · iapply (join2 c); iframe L2 C0
  iapply (join2 c); iframe L3 C1

end Cert.KernelIdeal.Run
-- ==== Proof.Body.lean ====
/-
# The kernel on one device

From the device's start to its end: the twenty-eight stretches, one after the other.
-/
module

public import proofs.«01_k».proof.Proof.Regroup
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- The sums of the exponentials of the rows, and their reciprocals. -/
def rowSum : FVec F S512x1 .f32 :=
  let S0 := k0_pay5 (xv m c) k0_pay2 (ch m c 0)
  let S1 := k0_pay9 S0 (k0_pay6 (xv m c) (ch m c 1))
  let S2 := k0_pay12 (xv m c) S1 (ch m c 2)
  let S3 := k0_pay15 (xv m c) S2 (ch m c 3)
  let S4 := k0_pay18 (xv m c) S3 (ch m c 4)
  let S5 := k0_pay21 (xv m c) S4 (ch m c 5)
  let S6 := k0_pay24 (xv m c) S5 (ch m c 6)
  let S7 := k0_pay28 S6 (k0_pay25 (xv m c) (ch m c 7))
  let S8 := k0_pay29 S7 (E m c (sX c 0))
  let S9 := k0_pay30 S8 (E m c (sX c 1))
  let S10 := k0_pay31 S9 (E m c (sY c 0))
  rs m c (k0_pay32 S10 (E m c (sY c 1))) 4
def recip : FVec F S512x1 .f32 := k0_pay34 (rowSum m c)

theorem fin16' (Φ : Fin 16 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) _

/-- What a device's signals hand its neighbours. -/
theorem give_x : iprop(slotAny c (sX c 0) ∗ slotAny c (sX c 1)) ⊢ (barPay (nX c) 0 : sProp 𝕄) := by
  show _ ⊢ iprop(zone (nX (nX c)) 5 ∗ zone (nX (nX c)) 6)
  rw [nX_nX]; exact .rfl
theorem give_y : iprop(slotAny c (sY c 0) ∗ slotAny c (sY c 1)) ⊢ (barPay (nY c) 1 : sProp 𝕄) := by
  show _ ⊢ iprop(zone (nY (nY c)) 9 ∗ zone (nY (nY c)) 10)
  rw [nY_nY]; exact .rfl
theorem give_z : iprop(slotAny c (slotOf c 15) ∗ slotAny c (slotOf c 16) ∗ slotAny c (slotOf c 17) ∗ slotAny c (slotOf c 18)) ⊢ (barPay (nZ c) 2 : sProp 𝕄) := by
  show _ ⊢ iprop(zone (nZ (nZ c)) 15 ∗ zone (nZ (nZ c)) 16 ∗ zone (nZ (nZ c)) 17 ∗ zone (nZ (nZ c)) 18)
  rw [nZ_nZ]; exact .rfl
theorem got_x : barPay c 0 = (iprop(zone (nX c) 5 ∗ zone (nX c) 6) : sProp 𝕄) := rfl
theorem got_y : barPay c 1 = (iprop(zone (nY c) 9 ∗ zone (nY c) 10) : sProp 𝕄) := rfl
theorem got_z : barPay c 2 = (iprop(zone (nZ c) (zOwn c 0).val ∗ zone (nZ c) (zOwn c 1).val ∗ zone (nZ c) (zOth c 0).val ∗ zone (nZ c) (zOth c 1).val) : sProp 𝕄) :=
  perm_z c fun q => zone (nZ c) q.val

/-- The duties a device does: its signals, its sends' two ends. -/
def toks : sProp 𝕄 :=
  iprop((dutyTok ER (barCell (nX c)) 0 0 ∗ dutyTok ER (barCell (nY c)) 0 1 ∗ dutyTok ER (barCell (nZ c)) 0 2)
    ∗ (tk c (dq 3) ∗ tk c (dq 4) ∗ tk c (dq 7) ∗ tk c (dq 8) ∗ tk c (dq 11) ∗ tk c (dq 12) ∗ tk c (dq 13) ∗ tk c (dq 14))
    ∗ (tk (nX c) (dq 5) ∗ tk (nX c) (dq 6)) ∗ (tk (nY c) (dq 9) ∗ tk (nY c) (dq 10))
    ∗ (tk (nZ c) (dq 15) ∗ tk (nZ c) (dq 16) ∗ tk (nZ c) (dq 17) ∗ tk (nZ c) (dq 18)))
/-- What will be paid to it. -/
def creds : sProp 𝕄 :=
  iprop(cred (tallyAt (barCell c) () 3) ∗ cr c (dq 5) ∗ cr c (dq 6) ∗ cr c (dq 9) ∗ cr c (dq 10) ∗ cr c (dq 15) ∗ cr c (dq 16) ∗ cr c (dq 17) ∗ cr c (dq 18))
/-- Its places in the rounds of its own semaphores, all in round `r`. -/
def places (r : ℕ) : sProp 𝕄 :=
  iprop(atPos ER (barCell c) r ∅ 0 ∗ atPos ER (farCell c (dq 3)) r ∅ 0 ∗ atPos ER (farCell c (dq 4)) r ∅ 0 ∗ atPos ER (farCell c (dq 5)) r ∅ 0 ∗ atPos ER (farCell c (dq 6)) r ∅ 0
    ∗ atPos ER (farCell c (dq 7)) r ∅ 0 ∗ atPos ER (farCell c (dq 8)) r ∅ 0 ∗ atPos ER (farCell c (dq 9)) r ∅ 0 ∗ atPos ER (farCell c (dq 10)) r ∅ 0
    ∗ atPos ER (farCell c (dq 11)) r ∅ 0 ∗ atPos ER (farCell c (dq 12)) r ∅ 0 ∗ atPos ER (farCell c (dq 13)) r ∅ 0 ∗ atPos ER (farCell c (dq 14)) r ∅ 0
    ∗ atPos ER (farCell c (dq 15)) r ∅ 0 ∗ atPos ER (farCell c (dq 16)) r ∅ 0 ∗ atPos ER (farCell c (dq 17)) r ∅ 0 ∗ atPos ER (farCell c (dq 18)) r ∅ 0)
/-- Its activations and weights, and the weight buffer with its semaphores. -/
def inputs : sProp 𝕄 :=
  iprop(xPts m c ∗ (winPts m c 0 ∗ winPts m c 1 ∗ winPts m c 2 ∗ winPts m c 3 ∗ winPts m c 4 ∗ winPts m c 5 ∗ winPts m c 6 ∗ winPts m c 7)
    ∗ halfAny c 0 ∗ halfAny c 1 ∗ sv c (dq 1) ∗ sv c (dq 2))
/-- A device's start and end. -/
def begins : sProp 𝕄 :=
  iprop(ow c (o0 c) ∗ toks c ∗ creds c ∗ places c 0 ∗ inputs m c
    ∗ (bigSep Finset.univ fun k : Fin 16 => slotAny (F := F) c k.val)
    ∗ (bigSep Finset.univ fun k : Fin 16 => iprop(∃ f, outPts (F := F) c k.val f)) ∗ bigSep Finset.univ fun k : Fin 16 => sv (F := F) c (outq k))
def ends : sProp 𝕄 := iprop(ow c [] ∗ places c 1 ∗ inputs m c ∗ bigSep Finset.univ (oDone m c (recip m c)))

set_option maxHeartbeats 8000000 in
theorem body_run (Kt : PUnit → sProp (MT nD τ sig Unit (Elt F) ℕ UU ℕ)) :
    iprop(ctx m K ∗ begins m c ∗ (ends m c -∗ Kt ⟨⟩))
      ⊢ WP c (cc0_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9) Kt := by
  simp only [cc0_body_eq_skeleton]; unfold cc0_body_skel
  simp only [k0_part28_eq_skeleton]; unfold k0_part28_skel
  simp only [WP, wp_bind, Prog.lift, Prog.bind_op, Prog.bind_ret, Prog.pure_eq_ret]
  unfold begins ends toks creds places inputs
  rw [fin16 fun k => slotAny c k, perm_slots c fun k => slotAny c k, perm_win c fun p => winPts m c p, perm_out c fun p => iprop(∃ f, outPts (F := F) c p f)]
  iintro ⟨#HC, ⟨HO, ⟨⟨tb0, tb1, tb2⟩, ⟨t3, t4, t7, t8, t11, t12, t13, t14⟩, ⟨tX5, tX6⟩, ⟨tY9, tY10⟩, Htz⟩,
    ⟨cb, c5, c6, c9, c10, c15, c16, c17, c18⟩,
    ⟨ab, a3, a4, a5, a6, a7, a8, a9, a10, a11, a12, a13, a14, a15, a16, a17, a18⟩,
    ⟨hx, ⟨w0, w1, w2, w3, w4, w5, w6, w7⟩, h0, h1, v1, v2⟩,
    ⟨s0, s1, s2, s3, s4, s5, s6, s7, gx0, gx1, gy0, gy1, gz0, gz1, gz2, gz3⟩, outs, svs⟩, Hk⟩
  ihave Htz := (Entails.of_eq (perm_z c fun q => tk (F := F) (nZ c) q)) $$ Htz
  icases Htz with ⟨tzA0, tzA1, tzB0, tzB1⟩
  ihave Hts := (Entails.of_eq (perm_s c fun q => tk (F := F) c q)) $$ [t11 t12 t13 t14]
  · iframe t11 t12 t13 t14
  icases Hts with ⟨tsA0, tsA1, tsB0, tsB1⟩
  ihave gx := (give_x c) $$ [gx0 gx1]
  · iframe gx0 gx1
  ihave gy := (give_y c) $$ [gy0 gy1]
  · iframe gy0 gy1
  ihave gz := (give_z c) $$ [gz0 gz1 gz2 gz3]
  · iframe gz0 gz1 gz2 gz3
  ihave Hz := (Entails.of_eq (fin4 (zTodo (F := F) c)).symm) $$ [c15 c16 c17 c18 a15 a16 a17 a18]
  · unfold zTodo
    isplitl [c15 a15]
    · isplitl [c15]
      · iexact c15
      · iexact a15
    isplitl [c16 a16]
    · isplitl [c16]
      · iexact c16
      · iexact a16
    isplitl [c17 a17]
    · isplitl [c17]
      · iexact c17
      · iexact a17
    isplitl [c18]
    · iexact c18
    · iexact a18
  ihave Hov := (Entails.of_eq (bigSep_sep' Finset.univ (fun k : Fin 16 => iprop(∃ f, outPts (F := F) c (outBlk c k.val) f)) (fun k => sv (F := F) c (outq k))).symm) $$ [outs svs]
  · iframe outs svs
  -- stretch 1
  iapply (part1 m K c _)
  isplitr; · iexact HC
  isplitl [HO tb0 tb1 gx gy]
  · iframe HO tb0 tb1 gx gy
  iintro %v2 %v5 %v8 %v9 %v10 %v11 %v13 %v16 %v31 HO
  try dsimp only
  -- stretch 2
  iapply (part2 m K c _ _ _ _ _)
  isplitr; · iexact HC
  isplitl [HO tb2 gz cb ab hx w0 w1 h0 h1 v1 v2]
  · iframe HO tb2 gz cb ab hx w0 w1 h0 h1 v1 v2
  iintro %v59 ⟨HO, ab, ⟨px, py, pz⟩, hx, F0, F1⟩
  try dsimp only
  ihave px := (Entails.of_eq (got_x c)) $$ px
  icases px with ⟨zx5, zx6⟩
  ihave py := (Entails.of_eq (got_y c)) $$ py
  icases py with ⟨zy9, zy10⟩
  ihave pz := (Entails.of_eq (got_z c)) $$ pz
  icases pz with ⟨zA0, zA1, zB0, zB1⟩
  -- stretch 3
  iapply (part3 m K c _ _ _ _ _ _ _ _)
  isplitr; · iexact HC
  isplitl [HO F0 s0]
  · iframe HO F0 s0
  iintro ⟨HO, h0, w0, v1, s0⟩
  try dsimp only
  -- stretch 4
  iapply (part4 m K c _ _)
  isplitr; · iexact HC
  isplitl [HO s0 zx5 t3 tX5 w2 h0 v1 F1 s1]
  · iframe HO s0 zx5 t3 tX5 w2 h0 v1 F1 s1
  iintro ⟨HO, c3, F0, h1, w1, v2, s1⟩
  try dsimp only
  -- stretch 5
  iapply (part5 m K c _ _ _ _ _ _ _)
  isplitr; · iexact HC
  isplitl [HO s1 zx6 t4 tX6 w3 h1 v2]
  · iframe HO s1 zx6 t4 tX6 w3 h1 v2
  iintro %v152 ⟨HO, c4, F1⟩
  try dsimp only
  -- stretch 6
  iapply (part6 m K c _ _ _ _ _)
  isplitr; · iexact HC
  isplitl [HO F0 s2 w4]
  · iframe HO F0 s2 w4
  iintro %v183 ⟨HO, s2, w2, F0⟩
  try dsimp only
  -- stretch 7
  iapply (part7 m K c _ _ _ _)
  isplitr; · iexact HC
  isplitl [HO F1 s3 w5]
  · iframe HO F1 s3 w5
  iintro %v213 ⟨HO, s3, w3, F1⟩
  try dsimp only
  -- stretch 8
  iapply (part8 m K c _ _ _ _ _)
  isplitr; · iexact HC
  isplitl [HO F0 s4 w6]
  · iframe HO F0 s4 w6
  iintro %v244 ⟨HO, s4, w4, F0⟩
  try dsimp only
  -- stretch 9
  iapply (part9 m K c _ _ _ _)
  isplitr; · iexact HC
  isplitl [HO F1 s5 w7]
  · iframe HO F1 s5 w7
  iintro %v274 ⟨HO, s5, w5, F1⟩
  try dsimp only
  -- stretch 10
  iapply (part10 m K c _ _ _ _ _)
  isplitr; · iexact HC
  isplitl [HO F0 F1 s6]
  · iframe HO F0 F1 s6
  iintro ⟨HO, s6, w6, w7, h0, h1, v1, v2⟩
  try dsimp only
  -- stretch 11
  iapply (part11 m K c _ _ _ _ _ _ _)
  isplitr; · iexact HC
  isplitl [HO s7 c5 a5]
  · iframe HO s7 c5 a5
  iintro %v335 ⟨HO, s7, a5, e0⟩
  try dsimp only
  ihave e0 := (cut3 c (sX c 0) _) $$ e0
  icases e0 with ⟨e0l, e0m, e0r⟩
  -- stretch 12
  iapply (part12 m K c _ _ _ _ _ _ _ _ _)
  isplitr; · iexact HC
  isplitl [HO e0m zy9 t7 tY9 e0l zA0 tsA0 tzA0]
  · iframe HO e0m zy9 t7 tY9 e0l zA0 tsA0 tzA0
  iintro ⟨HO, c7, cA0⟩
  try dsimp only
  -- stretch 13
  iapply (part13 m K c _ _ _ _ _ _ _)
  isplitr; · iexact HC
  isplitl [HO e0r c6 a6]
  · iframe HO e0r c6 a6
  iintro ⟨HO, e0r, a6, e1⟩
  try dsimp only
  ihave e1 := (cut3 c (sX c 1) _) $$ e1
  icases e1 with ⟨e1l, e1m, e1r⟩
  -- stretch 14
  iapply (part14 m K c _ _ _ _ _ _ _ _)
  isplitr; · iexact HC
  isplitl [HO e1m zy10 t8 tY10]
  · iframe HO e1m zy10 t8 tY10
  iintro ⟨HO, c8⟩
  try dsimp only
  -- stretch 15
  iapply (part15 m K c _ _ _ _ _ _ _ _)
  isplitr; · iexact HC
  isplitl [HO e1l zA1 tsA1 tzA1 e1r c9 a9]
  · iframe HO e1l zA1 tsA1 tzA1 e1r c9 a9
  iintro ⟨HO, cA1, e1r, a9, f0⟩
  try dsimp only
  ihave f0 := (slot_split c (sY c 0) fullShare _).1 $$ f0
  icases f0 with ⟨f0l, f0r⟩
  -- stretch 16
  iapply (part16 m K c _ _ _ _ _ _ _ _)
  isplitr; · iexact HC
  isplitl [HO f0l zB0 tsB0 tzB0 f0r]
  · iframe HO f0l zB0 tsB0 tzB0 f0r
  iintro %v502 ⟨HO, cB0, f0r⟩
  try dsimp only
  -- stretch 17
  iapply (part17 m K c _ _ _ _ _ _ _)
  isplitr; · iexact HC
  isplitl [HO c10 a10 zB1 tsB1 tzB1]
  · iframe HO c10 a10 zB1 tsB1 tzB1
  iintro %v535 ⟨HO, cB1, a10, f1r⟩
  try dsimp only
  -- stretch 18
  iapply (part18 m K c _ _ _ _ _ _ _ _)
  isplitr; · iexact HC
  isplitl [HO f1r Hz c3 a3 c7 a7]
  · iframe HO f1r Hz c3 a3 c7 a7
  iintro ⟨HO, f1r, Hz, a3, s0, a7, e0m⟩
  try dsimp only
  ihave Hz := (Entails.of_eq (fin4 (zDone m c))) $$ Hz
  unfold zDone
  icases Hz with ⟨⟨a15, z0⟩, ⟨a16, z1⟩, ⟨a17, z2⟩, ⟨a18, z3⟩⟩
  ihave Hcs := (Entails.of_eq (perm_s c fun q => cr (F := F) c q).symm) $$ [cA0 cA1 cB0 cB1]
  · iframe cA0 cA1 cB0 cB1
  icases Hcs with ⟨c11, c12, c13, c14⟩
  -- stretch 19
  iapply (part19 m K c _)
  isplitr; · iexact HC
  isplitl [HO c4 a4 c8 a8 c11 a11 c12 a12]
  · iframe HO c4 a4 c8 a8 c11 a11 c12 a12
  iintro ⟨HO, a4, s1, a8, e1m, a11, l0, a12, l1⟩
  try dsimp only
  -- stretch 20
  iapply (part20 m K c _ _ _ (gather m c) (gathered m c) _)
  isplitr; · iexact HC
  isplitl [HO c13 a13 c14 a14 s0 s1 s2 s3 s4 s5 s6 s7 e0m e0r e1m e1r f0r f1r z0 z1 z2 z3 l0 l1 Hov]
  · iframe HO c13 a13 c14 a14
    unfold gather
    iframe s0 s1 s2 s3 s4 s5 s6 s7 e0m e0r e1m e1r f0r f1r l0 l1 Hov
    isplitl [z0]; · iexact z0
    isplitl [z1]; · iexact z1
    isplitl [z2]; · iexact z2
    iexact z3
  iintro ⟨HO, a13, a14, Hd⟩
  try dsimp only
  ihave Hd := (Entails.of_eq (fin16' (oGo m c _))) $$ Hd
  icases Hd with ⟨g0, g1, g2, g3, g4, g5, g6, g7, g8, g9, g10, g11, g12, g13, g14, g15⟩
  -- stretch 21
  iapply (part21 m K c _ _ _ _)
  isplitr; · iexact HC
  isplitl [HO g0 g1]
  · iframe HO g0 g1
  iintro ⟨HO, g0, g1⟩
  try dsimp only
  -- stretch 22
  iapply (part22 m K c _ _ _ _)
  isplitr; · iexact HC
  isplitl [HO g2 g3]
  · iframe HO g2 g3
  iintro ⟨HO, g2, g3⟩
  try dsimp only
  -- stretch 23
  iapply (part23 m K c _ _ _ _)
  isplitr; · iexact HC
  isplitl [HO g4 g5]
  · iframe HO g4 g5
  iintro ⟨HO, g4, g5⟩
  try dsimp only
  -- stretch 24
  iapply (part24 m K c _ _ _ _)
  isplitr; · iexact HC
  isplitl [HO g6 g7]
  · iframe HO g6 g7
  iintro ⟨HO, g6, g7⟩
  try dsimp only
  -- stretch 25
  iapply (part25 m K c _ _ _ _)
  isplitr; · iexact HC
  isplitl [HO g8 g9]
  · iframe HO g8 g9
  iintro ⟨HO, g8, g9⟩
  try dsimp only
  -- stretch 26
  iapply (part26 m K c _ _ _ _)
  isplitr; · iexact HC
  isplitl [HO g10 g11]
  · iframe HO g10 g11
  iintro ⟨HO, g10, g11⟩
  try dsimp only
  -- stretch 27
  iapply (part27 m K c _ _ _ _)
  isplitr; · iexact HC
  isplitl [HO g12 g13]
  · iframe HO g12 g13
  iintro ⟨HO, g12, g13⟩
  try dsimp only
  try unfold oGo
  iapply (step_owait c (outq 14) 14 _ _ rfl) $$ [HO g14]
  · unfold ctx; icases HC with ⟨-, Hlev⟩; iframe # HO g14
  iintro ⟨g14a, g14b, g14v, HO⟩
  iapply (WP_ret c)
  try dsimp only
  try unfold oGo
  iapply (step_owait c (outq 15) 15 _ _ rfl) $$ [HO g15]
  · unfold ctx; icases HC with ⟨-, Hlev⟩; iframe # HO g15
  iintro ⟨g15a, g15b, g15v, HO⟩
  iapply (WP_ret c)
  try dsimp only
  iapply Hk
  rw [fin16' (oDone m c (recip m c))]
  iframe HO ab a3 a4 a5 a6 a7 a8 a9 a10 a11 a12 a13 a14 hx w0 w1 w2 w3 w4 w5 w6 w7 h0 h1 v1 v2
  isplitl [a15 a16 a17 a18]
  · isplitl [a15]; · iexact a15
    isplitl [a16]; · iexact a16
    isplitl [a17]; · iexact a17
    iexact a18
  isplitl [g0]; · iexact g0
  isplitl [g1]; · iexact g1
  isplitl [g2]; · iexact g2
  isplitl [g3]; · iexact g3
  isplitl [g4]; · iexact g4
  isplitl [g5]; · iexact g5
  isplitl [g6]; · iexact g6
  isplitl [g7]; · iexact g7
  isplitl [g8]; · iexact g8
  isplitl [g9]; · iexact g9
  isplitl [g10]; · iexact g10
  isplitl [g11]; · iexact g11
  isplitl [g12]; · iexact g12
  isplitl [g13]; · iexact g13
  isplitl [g14a g14b g14v]
  · unfold oDone; isplitl [g14a]; · iexact g14a
    isplitl [g14b]; · iexact g14b
    iexact g14v
  unfold oDone; isplitl [g15a]; · iexact g15a
  isplitl [g15b]; · iexact g15b
  iexact g15v

end Cert.KernelIdeal.Run
-- ==== Proof.Ghosts.lean ====
/-
# What each device starts from

The invariants of the seventeen semaphores of every device, the places in their rounds, the duties dealt to the devices
that do them, and the credits for what the others owe.
-/
module

public import proofs.«01_k».proof.Proof.Body
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-! ## The semaphores -/

/-- The kernel's own semaphores. -/
abbrev osem (k : Fin 34) : SemLoc sig := .dma ⟨k.val + 1, by have := k.isLt; show k.val + 1 < 35; omega⟩
theorem ownSemFacts : Pipeline.OwnSemFacts cfg0.spec osem := by decide

/-- The semaphores outside the protocol. -/
def locals : sProp 𝕄 := iprop(sv c (dq 1) ∗ sv c (dq 2) ∗ bigSep Finset.univ fun k : Fin 16 => sv (F := F) c (outq k))

theorem own_list : (Pipeline.ownSems0 (Ix := Unit) (Name := ℕ) (U := UU) (Lvl := ℕ) (Val := Elt F) (τ := τ) osem c : sProp 𝕄)
    = iprop(sv c (dq 1) ∗ sv c (dq 2) ∗ sv c (dq 3) ∗ sv c (dq 4) ∗ sv c (dq 5) ∗ sv c (dq 6) ∗ sv c (dq 7) ∗ sv c (dq 8) ∗ sv c (dq 9) ∗ sv c (dq 10) ∗ sv c (dq 11) ∗ sv c (dq 12) ∗ sv c (dq 13) ∗ sv c (dq 14) ∗ sv c (dq 15) ∗ sv c (dq 16) ∗ sv c (dq 17) ∗ sv c (dq 18) ∗ sv c (dq 19) ∗ sv c (dq 20) ∗ sv c (dq 21) ∗ sv c (dq 22) ∗ sv c (dq 23) ∗ sv c (dq 24) ∗ sv c (dq 25) ∗ sv c (dq 26) ∗ sv c (dq 27) ∗ sv c (dq 28) ∗ sv c (dq 29) ∗ sv c (dq 30) ∗ sv c (dq 31) ∗ sv c (dq 32) ∗ sv c (dq 33) ∗ sv c (dq 34)) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33] (by decide) (by decide)]; rfl
theorem unscoped_list : (unscopedSems0 c : sProp 𝕄) = semVal (barCell c) 0 := by
  unfold unscopedSems0; rw [bigSep_eq_bigSepL_of_eq [SemLoc.reg barS] (by decide) (by decide)]; rfl
theorem cells_list (Φ : GSem nD τ sig → sProp (MT nD τ sig Unit (Elt F) ℕ UU ℕ)) :
    bigSep Finset.univ (fun k : Fin 17 => Φ (kcell (c, k)))
      = iprop(Φ (barCell c) ∗ Φ (farCell c (dq 3)) ∗ Φ (farCell c (dq 4)) ∗ Φ (farCell c (dq 5)) ∗ Φ (farCell c (dq 6)) ∗ Φ (farCell c (dq 7)) ∗ Φ (farCell c (dq 8)) ∗ Φ (farCell c (dq 9)) ∗ Φ (farCell c (dq 10)) ∗ Φ (farCell c (dq 11)) ∗ Φ (farCell c (dq 12)) ∗ Φ (farCell c (dq 13)) ∗ Φ (farCell c (dq 14)) ∗ Φ (farCell c (dq 15)) ∗ Φ (farCell c (dq 16)) ∗ Φ (farCell c (dq 17)) ∗ Φ (farCell c (dq 18))) := by
  rw [bigSep_univ_eq_bigSepL [0, 1, 2, 3, 4, 5, 6, 7, 8, 9, 10, 11, 12, 13, 14, 15, 16] (by decide) (by decide)]; rfl

theorem sems_apart : iprop(Pipeline.ownSems0 (Ix := Unit) (Name := ℕ) (U := UU) (Lvl := ℕ) (Val := Elt F) (τ := τ) osem c ∗ unscopedSems0 c)
    ⊢ (iprop((bigSep Finset.univ fun k : Fin 17 => semVal (kcell (c, k)) 0) ∗ locals c) : sProp 𝕄) := by
  unfold locals
  rw [own_list, unscoped_list, cells_list c fun g => semVal g 0, fin16' fun k => sv c (outq k)]
  iintro ⟨⟨A1, A2, A3, A4, A5, A6, A7, A8, A9, A10, A11, A12, A13, A14, A15, A16, A17, A18, A19, A20, A21, A22, A23, A24, A25, A26, A27, A28, A29, A30, A31, A32, A33, A34⟩, B⟩
  isplitl [B A3 A4 A5 A6 A7 A8 A9 A10 A11 A12 A13 A14 A15 A16 A17 A18]
  · iframe B A3 A4 A5 A6 A7 A8 A9 A10 A11 A12 A13 A14 A15 A16 A17 A18
  isplitl [A1]; · iexact A1
  isplitl [A2]; · iexact A2
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34
theorem sems_again : iprop((bigSep Finset.univ fun k : Fin 17 => semVal (kcell (c, k)) 0) ∗ locals c)
    ⊢ (iprop(Pipeline.ownSems0 (Ix := Unit) (Name := ℕ) (U := UU) (Lvl := ℕ) (Val := Elt F) (τ := τ) osem c ∗ unscopedSems0 c) : sProp 𝕄) := by
  unfold locals
  rw [own_list, unscoped_list, cells_list c fun g => semVal g 0, fin16' fun k => sv c (outq k)]
  iintro ⟨⟨B, A3, A4, A5, A6, A7, A8, A9, A10, A11, A12, A13, A14, A15, A16, A17, A18⟩, A1, A2, A19, A20, A21, A22, A23, A24, A25, A26, A27, A28, A29, A30, A31, A32, A33, A34⟩
  isplitr [B]
  · iframe A1 A2 A3 A4 A5 A6 A7 A8 A9 A10 A11 A12 A13 A14 A15 A16 A17 A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    isplitl [A27]; · iexact A27
    isplitl [A28]; · iexact A28
    isplitl [A29]; · iexact A29
    isplitl [A30]; · iexact A30
    isplitl [A31]; · iexact A31
    isplitl [A32]; · iexact A32
    isplitl [A33]; · iexact A33
    iexact A34
  iexact B

/-! ## Funding the rounds -/

theorem ksem_inj : Function.Injective ksem := by decide
theorem kcell_inj : Function.Injective (kcell : Dev nD × Fin 17 → GSem nD τ sig) := by
  rintro ⟨c, k⟩ ⟨c', k'⟩ h
  have h1 : c = c' := by have := congrArg (fun g : GSem nD τ sig => g.1.1) h; exact this
  subst h1
  exact congrArg (Prod.mk c) (ksem_inj (congrArg Prod.snd h))

/-- The duties of a device's cells: three of its barrier, one of each other. -/
def dutyIx (i : Fin 19) : Fin 17 × Fin 3 := if h : i.val < 3 then (0, ⟨i.val, h⟩) else (⟨i.val - 2, by omega⟩, 0)
theorem dutyIx_inj : Function.Injective dutyIx := by decide
def duty (x : Dev nD × Fin 19) : GSem nD τ sig × ℕ × Fin 3 := (kcell (x.1, (dutyIx x.2).1), 0, (dutyIx x.2).2)
theorem duty_inj : Function.Injective duty := by
  rintro ⟨c, i⟩ ⟨c', i'⟩ h
  have h1 := kcell_inj (congrArg Prod.fst h)
  have h2 : (dutyIx i).2 = (dutyIx i').2 := congrArg (fun x => x.2.2) h
  have h3 : (dutyIx i).1 = (dutyIx i').1 := congrArg Prod.snd h1
  have hc : c = c' := congrArg Prod.fst h1
  rw [hc, dutyIx_inj (Prod.ext h3 h2)]

def allCells : Finset (GSem nD τ sig) := Finset.univ.map ⟨kcell, kcell_inj⟩
def allDuties : Finset (GSem nD τ sig × ℕ × Fin 3) := Finset.univ.map ⟨duty, duty_inj⟩

/-- The duties of a device's own cells. -/
def minted : sProp 𝕄 :=
  iprop(dutyTok ER (barCell c) 0 0 ∗ dutyTok ER (barCell c) 0 1 ∗ dutyTok ER (barCell c) 0 2 ∗ tk c (dq 3) ∗ tk c (dq 4) ∗ tk c (dq 5) ∗ tk c (dq 6) ∗ tk c (dq 7) ∗ tk c (dq 8) ∗ tk c (dq 9) ∗ tk c (dq 10) ∗ tk c (dq 11) ∗ tk c (dq 12) ∗ tk c (dq 13) ∗ tk c (dq 14) ∗ tk c (dq 15) ∗ tk c (dq 16) ∗ tk c (dq 17) ∗ tk c (dq 18))

def G : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ minted c)
def G' : sProp 𝕄 := iprop((∃ K, records m K) ∗ places c 0 ∗ toks c ∗ locals c)

theorem minted_list : (bigSep Finset.univ fun i : Fin 19 => dutyTok ER (duty (c, i)).1 (duty (c, i)).2.1 (duty (c, i)).2.2) = (minted c : sProp 𝕄) := by
  rw [bigSep_univ_eq_bigSepL [0, 1, 2, 3, 4, 5, 6, 7, 8, 9, 10, 11, 12, 13, 14, 15, 16, 17, 18] (by decide) (by decide)]; rfl

theorem fund_cells : BI.own (ER (initOf allCells allDuties)) ⊢ (|==> bigSep Finset.univ (G m) : sProp 𝕄) := by
  have hX (Φ : GSem nD τ sig → sProp (MT nD τ sig Unit (Elt F) ℕ UU ℕ)) : bigSep allCells Φ = bigSep Finset.univ fun c : Dev nD => bigSep Finset.univ fun k : Fin 17 => Φ (kcell (c, k)) := by
    unfold allCells; rw [bigSep_map, bigSep_univ_prod]; rfl
  have hT : bigSep allDuties (fun x => (dutyTok ER x.1 x.2.1 x.2.2 : sProp (MT nD τ sig Unit (Elt F) ℕ UU ℕ))) = bigSep Finset.univ fun c : Dev nD => minted c := by
    unfold allDuties; rw [bigSep_map, bigSep_univ_prod]
    exact bigSep_congr fun c _ => minted_list c
  iintro HX
  imod (Rounds.fund ER (Rd m) allCells allDuties) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted c ∗ locals c) := by
  unfold G
  iintro ⟨Hos, Hus, Hst, Hat, Htok⟩
  ihave Hv := (sems_apart (F := F) c) $$ [Hos Hus]
  · isplitl [Hos] <;> iassumption
  icases Hv with ⟨Hv, Hl⟩
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp (MT nD τ sig Unit (Elt F) ℕ UU ℕ)) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The duties dealt -/

def eqX : Dev nD ≃ Dev nD := ⟨nX, nX, nX_nX, nX_nX⟩
def eqY : Dev nD ≃ Dev nD := ⟨nY, nY, nY_nY, nY_nY⟩
def eqZ : Dev nD ≃ Dev nD := ⟨nZ, nZ, nZ_nZ, nZ_nZ⟩

theorem dealt : (bigSep Finset.univ fun c : Dev nD => (minted c : sProp 𝕄)) ⊢ bigSep Finset.univ fun c : Dev nD => toks c := by
  unfold minted toks
  simp only [bigSep_sep']
  rw [bigSep_univ_equiv eqX (fun c : Dev nD => (dutyTok ER (barCell c) 0 0 : sProp (MT nD τ sig Unit (Elt F) ℕ UU ℕ))),
    bigSep_univ_equiv eqY (fun c : Dev nD => (dutyTok ER (barCell c) 0 1 : sProp (MT nD τ sig Unit (Elt F) ℕ UU ℕ))),
    bigSep_univ_equiv eqZ (fun c : Dev nD => (dutyTok ER (barCell c) 0 2 : sProp (MT nD τ sig Unit (Elt F) ℕ UU ℕ))),
    bigSep_univ_equiv eqX (fun c : Dev nD => (tk c (dq 5) : sProp (MT nD τ sig Unit (Elt F) ℕ UU ℕ))),
    bigSep_univ_equiv eqX (fun c : Dev nD => (tk c (dq 6) : sProp (MT nD τ sig Unit (Elt F) ℕ UU ℕ))),
    bigSep_univ_equiv eqY (fun c : Dev nD => (tk c (dq 9) : sProp (MT nD τ sig Unit (Elt F) ℕ UU ℕ))),
    bigSep_univ_equiv eqY (fun c : Dev nD => (tk c (dq 10) : sProp (MT nD τ sig Unit (Elt F) ℕ UU ℕ))),
    bigSep_univ_equiv eqZ (fun c : Dev nD => (tk c (dq 15) : sProp (MT nD τ sig Unit (Elt F) ℕ UU ℕ))),
    bigSep_univ_equiv eqZ (fun c : Dev nD => (tk c (dq 16) : sProp (MT nD τ sig Unit (Elt F) ℕ UU ℕ))),
    bigSep_univ_equiv eqZ (fun c : Dev nD => (tk c (dq 17) : sProp (MT nD τ sig Unit (Elt F) ℕ UU ℕ))),
    bigSep_univ_equiv eqZ (fun c : Dev nD => (tk c (dq 18) : sProp (MT nD τ sig Unit (Elt F) ℕ UU ℕ)))]
  iintro ⟨B0, B1, B2, T3, T4, T5, T6, T7, T8, T9, T10, T11, T12, T13, T14, T15, T16, T17, T18⟩
  isplitl [B0 B1 B2]
  · isplitl [B0]; · iexact B0
    isplitl [B1]; · iexact B1
    iexact B2
  isplitl [T3 T4 T7 T8 T11 T12 T13 T14]
  · iframe T3 T4 T7 T8 T11 T12 T13 T14
  isplitl [T5 T6]
  · isplitl [T5]; · iexact T5
    iexact T6
  isplitl [T9 T10]
  · isplitl [T9]; · iexact T9
    iexact T10
  isplitl [T15]; · iexact T15
  isplitl [T16]; · iexact T16
  isplitl [T17]; · iexact T17
  iexact T18

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem start_of : iprop(records m K ∗ (bigSep Finset.univ fun k : Fin 17 => atPos ER (kcell (c, k)) 0 ∅ 0) ∗ toks c ∗ locals c) ⊢ G' m c := by
  unfold G' places
  rw [cells_list c fun g => atPos ER g 0 ∅ 0]
  iintro ⟨HR, Ha, Ht, Hl⟩
  isplitl [HR]; · iexists K; iexact HR
  isplitl [Ha]; · iexact Ha
  isplitl [Ht] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted c ∗ locals c) : sProp 𝕄)
      ⊢ bigSep Finset.univ (G' m) := by
  rw [bigSep_sep', bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp (MT nD τ sig Unit (Elt F) ℕ UU ℕ))) (fun k => reached ER (kcell (c, k)) 0)),
    bigSep_sep', ← bigSep_univ_prod (fun ck : Dev nD × Fin 17 => (reached ER (kcell ck) 0 : sProp (MT nD τ sig Unit (Elt F) ℕ UU ℕ)))]
  iintro ⟨HI, ⟨Hat, #HR⟩, Htok, Hloc⟩
  ihave HK := (BI.bigSep_exists_pi Finset.univ (fun (ck : Dev nD × Fin 17) (κ : ℕ) => (cellInv ER (Rd m) κ (kcell ck) : sProp (MT nD τ sig Unit (Elt F) ℕ UU ℕ)))) $$ HI
  icases HK with ⟨%K, #HI⟩
  ihave Htk := (dealt (F := F)) $$ Htok
  iapply (with_persistent (R := records m K) fun c _ => start_of m K c)
  isplitr
  · unfold records; isplitl; · iexact HI
    iexact HR
  · rw [bigSep_sep', bigSep_sep']
    isplitl [Hat]; · iexact Hat
    isplitl [Htk] <;> iassumption

/-- All devices' semaphores and rounds at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What each device owes at launch. -/
def O₀ (c : Dev nD) : CellTallies nD τ sig Unit := due (o0 c)

/-- The amount of one landing. -/
def amt : SemLoc sig → ℕ
  | .reg _ => 1
  | .dma _ => N

theorem due_count (sm : SemLoc sig) (l : List ((Dev nD × SemLoc sig) × ℕ)) (h : ∀ a ∈ l, a.2 = amt a.1.2) :
    due l ((c : Thread nD τ), sm) () = (l.map Prod.fst).count (c, sm) * amt sm := by
  induction l with
  | nil => rw [List.map_nil, List.count_nil, Nat.zero_mul]; rfl
  | cons a l ih =>
    have ih := ih fun b hb => h b (List.mem_cons_of_mem _ hb)
    have ha := h a List.mem_cons_self
    unfold due
    rw [Pi.add_apply, Finsupp.add_apply, ih, tallyAt_apply, List.map_cons, List.count_cons]
    by_cases e : a.1 = (c, sm)
    · rw [if_pos ⟨by rw [e], rfl⟩, ha, e, if_pos (by rw [beq_self_eq_true]), Nat.add_mul, Nat.one_mul]
    · rw [if_neg (fun hh => e (Prod.ext (Fin.ext (congrArg (fun g : GSem nD τ sig => g.1.1.val) hh.1).symm) (congrArg (fun g : GSem nD τ sig => g.2) hh.1).symm)),
        if_neg (by rw [beq_iff_eq]; exact e), Nat.add_zero, Nat.add_zero]

theorem o0_amt : ∀ a ∈ o0 c, a.2 = amt a.1.2 := by
  intro a ha
  simp only [List.mem_cons, List.not_mem_nil, or_false] at ha
  rcases ha with h | h | h | h | h | h | h | h | h | h | h <;> subst h <;> rfl

/-- How many landings all devices owe a semaphore of one device. -/
theorem owed_bar : (∑ d : Dev nD, ((o0 d).map Prod.fst).count (c, SemLoc.reg barS)) = 3 := by revert c; decide +kernel
theorem owed_far (q : DmaSem sig) (h : q.val = 5 ∨ q.val = 6 ∨ q.val = 9 ∨ q.val = 10 ∨ (15 ≤ q.val ∧ q.val ≤ 18)) :
    (∑ d : Dev nD, ((o0 d).map Prod.fst).count (c, SemLoc.dma q)) = 1 := by revert c q; decide +kernel

theorem launch_at (sm : SemLoc sig) (n : ℕ) (h : (∑ d : Dev nD, ((o0 d).map Prod.fst).count (c, sm)) = n) :
    tallyOn ((c : Thread nD τ), sm) (launchCredit (Pipeline.owing O₀) 0 ((c : Thread nD τ), sm)) = (tallyAt ((c : Thread nD τ), sm) () (n * amt sm) : CellTallies nD τ sig Unit) := by
  unfold tallyAt; refine congrArg _ (Finsupp.ext fun u => ?_); cases u
  rw [Pipeline.launchCredit_owing, Finsupp.single_eq_same, show (∑ d : Dev nD, O₀ d ((c : Thread nD τ), sm) ()) = ∑ d : Dev nD, ((o0 d).map Prod.fst).count (c, sm) * amt sm from Finset.sum_congr rfl fun d _ => due_count c sm (o0 d) (o0_amt d), ← Finset.sum_mul, h]

def credS : List (SemLoc sig) := [.reg barS, .dma (dq 5), .dma (dq 6), .dma (dq 9), .dma (dq 10), .dma (dq 15), .dma (dq 16), .dma (dq 17), .dma (dq 18)]

theorem creds_of : (Pipeline.launchCred O₀ c : sProp 𝕄) ⊢ creds c := by
  have hf (q : DmaSem sig) (h : q.val = 5 ∨ q.val = 6 ∨ q.val = 9 ∨ q.val = 10 ∨ (15 ≤ q.val ∧ q.val ≤ 18)) :=
    (launch_at c (.dma q) 1 (owed_far c q h)).trans (congrArg (tallyAt (farCell c q) ()) (Nat.one_mul N))
  unfold Pipeline.launchCred creds
  refine (bigSep_subset (Finset.subset_univ credS.toFinset)).trans ?_
  rw [bigSep_eq_bigSepL_of_eq credS rfl (by decide)]
  show iprop(cred (tallyOn (barCell c) (launchCredit (Pipeline.owing O₀) 0 (barCell c))) ∗ cred (tallyOn (farCell c (dq 5)) (launchCredit (Pipeline.owing O₀) 0 (farCell c (dq 5)))) ∗ cred (tallyOn (farCell c (dq 6)) (launchCredit (Pipeline.owing O₀) 0 (farCell c (dq 6)))) ∗ cred (tallyOn (farCell c (dq 9)) (launchCredit (Pipeline.owing O₀) 0 (farCell c (dq 9)))) ∗ cred (tallyOn (farCell c (dq 10)) (launchCredit (Pipeline.owing O₀) 0 (farCell c (dq 10)))) ∗ cred (tallyOn (farCell c (dq 15)) (launchCredit (Pipeline.owing O₀) 0 (farCell c (dq 15)))) ∗ cred (tallyOn (farCell c (dq 16)) (launchCredit (Pipeline.owing O₀) 0 (farCell c (dq 16)))) ∗ cred (tallyOn (farCell c (dq 17)) (launchCredit (Pipeline.owing O₀) 0 (farCell c (dq 17)))) ∗ cred (tallyOn (farCell c (dq 18)) (launchCredit (Pipeline.owing O₀) 0 (farCell c (dq 18))))) ⊢ _
  rw [launch_at c (.reg barS) 3 (owed_bar c), hf (dq 5) (by decide), hf (dq 6) (by decide), hf (dq 9) (by decide), hf (dq 10) (by decide), hf (dq 15) (by decide), hf (dq 16) (by decide), hf (dq 17) (by decide), hf (dq 18) (by decide)]
  exact .rfl

end Cert.KernelIdeal.Run
-- ==== Proof.Whole.lean ====
/-
# A device's memory, whole and in pieces

The weights in eight column blocks, the slots one by one, the weight buffer's halves, the result in sixteen column
blocks; what the result holds at the end.
-/
module

public import proofs.«01_k».proof.Proof.Ghosts
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

section Cut

variable {ℓ : Loc nD τ sig} {T : Type} [Fintype T] [DecidableEq T] (I : T → Finset (Idx ℓ))

theorem cut (hd : ∀ t t', t ≠ t' → Disjoint (I t) (I t')) (hc : Finset.univ.biUnion I = Finset.univ) (f : Buf (Elt F) ℓ) :
    (ℓ ↦{fullShare} f : sProp 𝕄) = bigSep Finset.univ fun t => ℓ ↦[I t]{fullShare} f := by
  rw [← pointsTo_biUnion Finset.univ I fun t _ t' _ h => hd t t' h, hc]
theorem joined (hd : ∀ t t', t ≠ t' → Disjoint (I t) (I t')) (hc : Finset.univ.biUnion I = Finset.univ) (f₀ : Buf (Elt F) ℓ) :
    (bigSep Finset.univ fun t => iprop(∃ f : Buf (Elt F) ℓ, ℓ ↦[I t]{fullShare} f)) ⊢ (iprop(∃ f, ℓ ↦{fullShare} f) : sProp 𝕄) := by
  iintro H
  ihave HK := (BI.bigSep_exists_pi Finset.univ (fun (t : T) (f : Buf (Elt F) ℓ) => (ℓ ↦[I t]{fullShare} f : sProp (MT nD τ sig Unit (Elt F) ℕ UU ℕ)))) $$ H
  icases HK with ⟨%fs, H⟩
  ihave H := (pointsTo_biUnion_join Finset.univ I fs f₀ fun t _ t' _ h => hd t t' h) $$ H
  icases H with ⟨%g, -, H⟩
  rw [hc]
  iexists g; iexact H

end Cut

theorem disj_of {S : Shape} (g : S.Idx → ℕ) {k k' : ℕ} (h : k ≠ k') : Disjoint (Finset.univ.filter fun i => g i = k) (Finset.univ.filter fun i => g i = k') :=
  Finset.disjoint_left.mpr fun i h1 h2 => h ((Finset.mem_filter.mp h1).2.symm.trans (Finset.mem_filter.mp h2).2)
theorem cover_of {S : Shape} (g : S.Idx → ℕ) (n : ℕ) (h : ∀ i, g i < n) : (Finset.univ.biUnion fun t : Fin n => Finset.univ.filter fun i => g i = t.val) = Finset.univ :=
  Finset.eq_univ_iff_forall.mpr fun i => Finset.mem_biUnion.mpr ⟨⟨g i, h i⟩, Finset.mem_univ _, Finset.mem_filter.mpr ⟨Finset.mem_univ _, rfl⟩⟩
theorem ne_val {n : ℕ} (t t' : Fin n) (h : t ≠ t') : t.val ≠ t'.val := fun e => h (Fin.ext e)

/-- The weights. -/
theorem wts_cut : (((c : Thread nD τ).loc main_arg1) ↦{fullShare} wts m c : sProp 𝕄) = bigSep Finset.univ fun p : Fin 8 => winPts m c p.val :=
  cut (ℓ := (c : Thread nD τ).loc main_arg1) (fun p : Fin 8 => winSet p.val) (fun t t' h => disj_of (S := S1024x8192) (fun i => (i 1).val / 1024) (ne_val t t' h))
    (cover_of (S := S1024x8192) (fun i => (i 1).val / 1024) 8 fun i => by have h : (i 1).val < 8192 := (i 1).isLt; omega) (wts m c)

theorem slot_any (k : ℕ) (f : S16x512x1024.Idx → Elt F .bf16) : slotPts c k fullShare f ⊢ (slotAny c k : sProp 𝕄) := by
  unfold slotAny; iintro H; iexists f; iexact H
theorem half_any (k : ℕ) (f : S2x1024x1024.Idx → Elt F .f32) : halfPts c k f ⊢ (halfAny c k : sProp 𝕄) := by
  unfold halfAny; iintro H; iexists f; iexact H
theorem out_some (p : ℕ) (f : S512x16384.Idx → Elt F .bf16) : outPts c p f ⊢ (iprop(∃ f, outPts c p f) : sProp 𝕄) := by
  iintro H; iexists f; iexact H

/-- The slots. -/
theorem slots_cut (f : S16x512x1024.Idx → Elt F .bf16) :
    (((c : Thread nD τ).loc cc0_scratch0) ↦{fullShare} f : sProp 𝕄) = bigSep Finset.univ fun k : Fin 16 => slotPts c k.val fullShare f :=
  cut (ℓ := (c : Thread nD τ).loc cc0_scratch0) (fun k : Fin 16 => slotSet k.val) (fun t t' h => disj_of (S := S16x512x1024) (fun i => (i 0).val) (ne_val t t' h))
    (cover_of (S := S16x512x1024) (fun i => (i 0).val) 16 fun i => (i 0).isLt) f
theorem slots_any (f : S16x512x1024.Idx → Elt F .bf16) :
    (((c : Thread nD τ).loc cc0_scratch0) ↦{fullShare} f : sProp 𝕄) ⊢ bigSep Finset.univ fun k : Fin 16 => slotAny c k.val := by
  rw [slots_cut]; exact bigSep_mono fun k _ => slot_any c _ f
theorem slots_back [Nonempty (Elt F .bf16)] : (bigSep Finset.univ fun k : Fin 16 => slotAny (F := F) c k.val) ⊢ (iprop(∃ f, ((c : Thread nD τ).loc cc0_scratch0) ↦{fullShare} f) : sProp 𝕄) :=
  joined (ℓ := (c : Thread nD τ).loc cc0_scratch0) (fun k : Fin 16 => slotSet k.val) (fun t t' h => disj_of (S := S16x512x1024) (fun i => (i 0).val) (ne_val t t' h))
    (cover_of (S := S16x512x1024) (fun i => (i 0).val) 16 fun i => (i 0).isLt) fun _ => Classical.choice inferInstance

/-- The weight buffer. -/
theorem two (Φ : Fin 2 → sProp (MT nD τ sig Unit (Elt F) ℕ UU ℕ)) : bigSep Finset.univ Φ = iprop(Φ 0 ∗ Φ 1) := bigSep_univ_eq_bigSepL [0, 1] (by decide) (by decide) Φ
theorem halves_any (f : S2x1024x1024.Idx → Elt F .f32) :
    (((c : Thread nD τ).loc cc0_scratch1) ↦{fullShare} f : sProp 𝕄) ⊢ iprop(halfAny c 0 ∗ halfAny c 1) := by
  rw [cut (ℓ := (c : Thread nD τ).loc cc0_scratch1) (fun k : Fin 2 => halfSet k.val) (fun t t' h => disj_of (S := S2x1024x1024) (fun i => (i 0).val) (ne_val t t' h))
    (cover_of (S := S2x1024x1024) (fun i => (i 0).val) 2 fun i => (i 0).isLt) f, two]
  exact BIClass.sep_mono (half_any c 0 f) (half_any c 1 f)
theorem halves_back [Nonempty (Elt F .f32)] : iprop(halfAny c 0 ∗ halfAny c 1) ⊢ (iprop(∃ f, ((c : Thread nD τ).loc cc0_scratch1) ↦{fullShare} f) : sProp 𝕄) := by
  refine (Entails.of_eq (two fun k : Fin 2 => halfAny (F := F) c k.val).symm).trans ?_
  exact joined (ℓ := (c : Thread nD τ).loc cc0_scratch1) (fun k : Fin 2 => halfSet k.val) (fun t t' h => disj_of (S := S2x1024x1024) (fun i => (i 0).val) (ne_val t t' h))
    (cover_of (S := S2x1024x1024) (fun i => (i 0).val) 2 fun i => (i 0).isLt) fun _ => Classical.choice inferInstance

/-- The slot a block of the result's columns comes from. -/
def slotFor (p : ℕ) : ℕ := if p / 8 = c.val / 4 then (p + 8 - 2 * qx c) % 8 else 8 + p % 8
theorem slotFor_out (k : Fin 16) : slotFor c (outBlk c k.val) = k.val := by revert c k; decide +kernel

/-- The result of device `c`. -/
def result : S512x16384.Idx → Elt F .bf16 := fun i => spreadO (scaled m c (recip m c) (slotFor c ((i 1).val / 1024))) i

theorem out_cut (f : S512x16384.Idx → Elt F .bf16) :
    (((c : Thread nD τ).loc main_v1) ↦{fullShare} f : sProp 𝕄) = bigSep Finset.univ fun p : Fin 16 => outPts c p.val f :=
  cut (ℓ := (c : Thread nD τ).loc main_v1) (fun k : Fin 16 => outSet k.val) (fun t t' h => disj_of (S := S512x16384) (fun i => (i 1).val / 1024) (ne_val t t' h))
    (cover_of (S := S512x16384) (fun i => (i 1).val / 1024) 16 fun i => by have h : (i 1).val < 16384 := (i 1).isLt; omega) f
theorem out_any (f : S512x16384.Idx → Elt F .bf16) :
    (((c : Thread nD τ).loc main_v1) ↦{fullShare} f : sProp 𝕄) ⊢ bigSep Finset.univ fun p : Fin 16 => iprop(∃ f, outPts (F := F) c p.val f) := by
  rw [out_cut]; exact bigSep_mono fun k _ => out_some c _ f
theorem out_back : (bigSep Finset.univ fun k : Fin 16 => outPts c (outBlk c k.val) (spreadO (scaled m c (recip m c) k.val)))
    ⊢ (((c : Thread nD τ).loc main_v1) ↦{fullShare} result m c : sProp 𝕄) := by
  rw [out_cut, perm_out c fun p => outPts c p (result m c)]
  refine Entails.of_eq (bigSep_congr fun k _ => ?_)
  unfold outPts
  refine pointsTo_congr fun i hi => ?_
  have h : (i 1).val / 1024 = outBlk c k.val := mem_outSet.mp hi
  show _ = spreadO (scaled m c (recip m c) (slotFor c ((i 1).val / 1024))) i
  rw [h, slotFor_out]

/-! ## A device's start and end, whole -/

/-- The weights and the result, and what they are at the end. -/
def argPts : sProp 𝕄 := (((c : Thread nD τ).loc main_arg1) ↦{fullShare} wts m c)
def resPts (f : S512x16384.Idx → Elt F .bf16) : sProp 𝕄 := (((c : Thread nD τ).loc main_v1) ↦{fullShare} f)
def scr0 : sProp 𝕄 := iprop(∃ f : S16x512x1024.Idx → Elt F .bf16, ((c : Thread nD τ).loc cc0_scratch0) ↦{fullShare} f)
def scr1 : sProp 𝕄 := iprop(∃ f : S2x1024x1024.Idx → Elt F .f32, ((c : Thread nD τ).loc cc0_scratch1) ↦{fullShare} f)

def start : sProp 𝕄 :=
  iprop(((∃ K, records m K) ∗ levAts L lv) ∗ toks c ∗ creds c ∗ places c 0 ∗ locals c ∗ argPts m c ∗ ∃ f, resPts c f)
def Φ₀ : sProp 𝕄 := iprop(start m c ∗ scr0 c ∗ scr1 c)
def Φ₁ : sProp 𝕄 :=
  iprop((Pipeline.ownSems0 (Ix := Unit) (Name := ℕ) (U := UU) (Lvl := ℕ) (Val := Elt F) (τ := τ) osem c ∗ unscopedSems0 c)
    ∗ argPts m c ∗ resPts c (result m c) ∗ scr0 c ∗ scr1 c)

theorem begins_of : iprop(ow c (o0 c) ∗ toks c ∗ creds c ∗ places c 0 ∗ locals c ∗ argPts m c ∗ (∃ f, resPts c f) ∗ scr0 c ∗ scr1 c ∗ xPts m c) ⊢ begins m c := by
  unfold begins inputs locals argPts resPts scr0 scr1
  rw [wts_cut, fin8 fun p => winPts m c p]
  iintro ⟨HO, Ht, Hc, Hp, ⟨v1, v2, vs⟩, ⟨w0, w1, w2, w3, w4, w5, w6, w7⟩, ⟨%fr, Hr⟩, ⟨%f0, H0⟩, ⟨%f1, H1⟩, Hx⟩
  ihave Hr := (out_any c fr) $$ Hr
  ihave H0 := (slots_any c f0) $$ H0
  ihave H1 := (halves_any c f1) $$ H1
  icases H1 with ⟨h0, h1⟩
  iframe HO Ht Hc Hp v1 v2 vs w0 w1 w2 w3 w4 w5 w6 w7 Hr H0 h0 h1 Hx

theorem slots_some [Nonempty (Elt F .bf16)] : (bigSep Finset.univ fun k : Fin 16 => slotPts c k.val fullShare (spread (scaled m c (recip m c) k.val)))
    ⊢ (iprop(∃ f, ((c : Thread nD τ).loc cc0_scratch0) ↦{fullShare} f) : sProp 𝕄) := by
  refine BIBase.Entails.trans ?_ (slots_back (F := F) c)
  exact bigSep_mono fun k _ => slot_any c _ _

theorem closed : iprop(records m K ∗ bigSep Finset.univ fun k : Fin 17 => atPos ER (kcell (c, k)) 1 ∅ 0)
    ⊢ (|={Set.univ}=> bigSep Finset.univ fun k : Fin 17 => semVal (kcell (c, k)) 0 : sProp 𝕄) := by
  refine (with_persistent (R := records m K) fun k _ => ?_).trans (bigSep_fupd _ _)
  unfold records
  iintro ⟨⟨HI, -⟩, Ha⟩
  iapply (Rounds.cell_close ER (Rd m) (Set.mem_univ (K (c, k))) (fun h => h) (R := 0 + 1) (duties_later m (kcell (c, k))))
  isplitl [HI]
  · iapply (inv_at m K (c, k)); iexact HI
  iexact Ha

theorem ends_to [Nonempty (Elt F .bf16)] [Nonempty (Elt F .f32)] : iprop(records m K ∗ ends m c) ⊢ (|={Set.univ}=> iprop(Φ₁ m c ∗ ow c [] ∗ xPts m c) : sProp 𝕄) := by
  unfold ends inputs Φ₁ argPts resPts scr0 scr1
  rw [wts_cut, fin8 fun p => winPts m c p]
  iintro ⟨HR, HO, Hp, ⟨Hx, ⟨w0, w1, w2, w3, w4, w5, w6, w7⟩, h0, h1, v1, v2⟩, Hd⟩
  unfold places
  ihave Hp := (Entails.of_eq (cells_list c fun g => atPos ER g 1 ∅ 0).symm) $$ Hp
  imod (closed m K c) $$ [HR Hp] with Hs
  · isplitl [HR] <;> iassumption
  ihave Hd := (Entails.of_eq (show bigSep Finset.univ (oDone m c (recip m c)) = iprop((bigSep Finset.univ fun k : Fin 16 => outPts c (outBlk c k.val) (spreadO (scaled m c (recip m c) k.val)))
      ∗ (bigSep Finset.univ fun k : Fin 16 => slotPts c k.val fullShare (spread (scaled m c (recip m c) k.val))) ∗ bigSep Finset.univ fun k : Fin 16 => sv (F := F) c (outq k)) from by
        unfold oDone; rw [bigSep_sep', bigSep_sep'])) $$ Hd
  icases Hd with ⟨Hr, H0, vs⟩
  ihave Hr := (out_back m c) $$ Hr
  ihave H0 := (slots_some m c) $$ H0
  ihave H1 := (halves_back (F := F) c) $$ [h0 h1]
  · isplitl [h0] <;> iassumption
  ihave Hs := (sems_again (F := F) c) $$ [Hs v1 v2 vs]
  · unfold locals; iframe Hs v1 v2 vs
  imodintro
  iframe Hs w0 w1 w2 w3 w4 w5 w6 w7 Hr H0 H1 HO Hx

end Cert.KernelIdeal.Run
-- ==== Proof.Launch.lean ====
/-
# The run of all eight devices
-/
module

public import proofs.«01_k».proof.Proof.Whole
public import Idealize.ShloMosaic.Lib.SparseCore.ProtocolKit

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

theorem some_bf16 : Nonempty (Elt F .bf16) := Elt.nonempty F .bf16
theorem some_f32 : Nonempty (Elt F .f32) := Elt.nonempty F .f32

/-- The activations' buffer as the pipeline fills it. -/
def xblk (c : Dev nD) : (cc0_stg0_0 : Ref sig .tc).ty.Contents (Elt F) := iblk m c 0 t0_0

def dats (_ : Fin 1) (c : Dev nD) : Dat τ (Elt F) Unit ℕ UU ℕ cfg0 c where
  A w := V m c (Pipeline.arrRef spec0 w)
  after w _ := match w with
    | ⟨0, _⟩ => xblk m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_x (c : Dev nD) (d) : (dats m 0 c).before (0 : Fin 1) t0_0 d = xblk m c :=
  ((dats m 0 c).before_in_eq_fetched (0 : Fin 1) rfl (fun _ => rfl) (fun _ _ _ => rfl)
    (fun t => by rw [fin_N0 t]; rfl) t0_0 d).trans rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (xblk m c))

theorem body_whole (c : Dev nD) : bodyPre m c ⊢ WP c (cc0_body (F := F) (Memref.whole cc0_stg0_0) (Memref.isWhole_whole _) aM (Memref.isWhole_whole _) oM (Memref.isWhole_whole _) eM (Memref.isWhole_whole _) wM (Memref.isWhole_whole _)
          cc0_scratch2 cc0_scratch3 cc0_scratch4 cc0_scratch5 cc0_scratch6 cc0_scratch7 cc0_scratch8 cc0_scratch9) (fun _ => bodyPost m c) := by
  haveI := some_bf16 (F := F)
  haveI := some_f32 (F := F)
  refine BIBase.Entails.trans ?_ (wp_fupd _ _ _ _ _)
  unfold bodyPre Φ₀ start Dat.owesAt Pipeline.owesWithin
  rw [show (dats m 0 c).owed t0_0.castSucc = due (o0 c) from rfl]
  iintro ⟨⟨⟨⟨⟨%K, #HR⟩, #Hlev⟩, Ht, Hc, Hp, Hl, Ha, Hr⟩, H0, H1⟩, ⟨%W, -, HO⟩, ⟨%d, %f, %hf, Hx⟩⟩
  have hf' : f = iblk m c 0 t0_0 := hf.trans (before_x m c d)
  subst hf'
  iapply (body_run m K c fun _ => iprop(|={Set.univ}=> bodyPost m c))
  isplitr
  · unfold ctx; isplitr; · iexact HR
    iexact Hlev
  isplitl [HO Ht Hc Hp Hl Ha Hr H0 H1 Hx]
  · iapply (begins_of m c)
    isplitl [HO]; · unfold ow; iexists W; iexact HO
    iframe Ht Hc Hp Hl Ha Hr H0 H1
    unfold xPts; iexact Hx
  iintro He
  imod (ends_to m K c) $$ [He] with ⟨HΦ, HO, Hx⟩
  · isplitr; · iexact HR
    iexact He
  imodintro
  unfold bodyPost Dat.owesAt Pipeline.owesWithin ow
  rw [show (dats m 0 c).owed t0_0.succ = due [] from rfl]
  icases HO with ⟨%W', HO⟩
  isplitl [HΦ]; · iexact HΦ
  isplitl [HO]
  · iexists W'
    isplitr; · ipureintro; exact fun _ _ => Or.inl trivial
    iexact HO
  iexists _; isplitr
  · ipureintro; rfl
  unfold xPts xblk; iexact Hx

set_option maxRecDepth 16384 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_whole m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest (Ix := Unit) (Name := ℕ) (U := UU) (Lvl := ℕ) cfg0.spec c (fun b => m ((c : Thread nD τ).loc b)) : sProp 𝕄) = _ from unscopedRest0_eq c _]
  unfold G' start argPts resPts
  iintro ⟨⟨Ha, Hr⟩, Hlev, Hcr, -, HR, Hp, Ht, Hl⟩
  ihave Hc := (creds_of (F := F) c) $$ Hcr
  imodintro
  isplitl
  · isplitl [HR Hlev]
    · isplitl [HR]; · iexact HR
      iexact Hlev
    iframe Ht Hc Hp Hl
    isplitl [Ha]; · iexact Ha
    iexists _; iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest (Ix := Unit) (Name := ℕ) (U := UU) (Lvl := ℕ) (Val := Elt F) cfg0.spec c : sProp 𝕄) = _ from scopedRest0_eq c]
  unfold Φ₀ scr0 scr1
  iintro ⟨Hs, -, H0, H1⟩
  isplitl [Hs]; · iexact Hs
  isplitl [H0]; · iexact H0
  iexact H1

/-- What a device hands back: its barrier semaphore at zero, its weights, its result. -/
def kept (c : Dev nD) : sProp 𝕄 := iprop(unscopedSems0 c ∗ argPts m c ∗ resPts c (result m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, show (Pipeline.scopedRest (Ix := Unit) (Name := ℕ) (U := UU) (Lvl := ℕ) (Val := Elt F) cfg0.spec c : sProp 𝕄) = _ from scopedRest0_eq c]
  unfold Φ₁ kept scr0 scr1
  iintro ⟨⟨Hos, Hus⟩, Ha, Hr, H0, H1⟩
  isplitl [Hus Ha Hr]
  · isplitl [Hus]; · iexact Hus
    isplitl [Ha] <;> iassumption
  isplitl [Hos]; · iexact Hos
  isplitl [H0]; · iexact H0
  iexact H1

/-- Everything owed at the start waits above the pipeline's own copies. -/
theorem first_low (c : Dev nD) : ∀ a ∈ o0 c, 0 < lvS a.1.2 :=
  List.forall_mem_cons.mpr ⟨by show 0 < lvS (.reg barS); decide, List.forall_mem_cons.mpr ⟨by show 0 < lvS (.reg barS); decide,
    List.forall_mem_cons.mpr ⟨by show 0 < lvS (.reg barS); decide, low (lv_o3 c)⟩⟩⟩

theorem waits (c : Dev nD) : (levAts L lv : sProp 𝕄) ⊢ Pipeline.cellsWaits cfgs (dats m) () 0 c :=
  Pipeline.cellsWaits_intro cfgs (dats m) () 0 c fun w s t => by
    have hO : (dats m 0 c).owed t = due (o0 c) ∨ (dats m 0 c).owed t = due [] := by
      rcases t with ⟨_ | _, ht⟩
      · exact Or.inl rfl
      · exact Or.inr rfl
    have hs : lvS (.dma (((cfgs 0).win w).sem s)) = 0 := by fin_cases w; fin_cases s <;> rfl
    rcases hO with h | h
    · rw [h]; exact mayWait c _ (o0 c) fun a ha => hs.trans_lt (first_low c a ha)
    · rw [h]; exact mayWait c _ [] fun a ha => absurd ha List.not_mem_nil

def u₀ : UU := (initOf (Pipeline.cells cfgs cellOf_inj) (Pipeline.launchToks cfgs cellOf_inj), (initOf allCells allDuties, 1))

theorem fund : BI.own (((Emb.inl : Emb UX (UX × Counters)).trans (embR : Emb (UX × Counters) (MT nD τ sig Unit (Elt F) ℕ UU ℕ))) (initOf allCells allDuties)) ⊢ |==> (bigSep Finset.univ (G m) : sProp 𝕄) := fund_cells m

/-- One location read in the final state. -/
theorem read_at (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  exact h.trans (sep_mono_left (BI.pure_mono fun hh => hh () (Finset.mem_singleton_self _)))

/-- What the run ends with. -/
def Ends (r : PUnit × MemSt nD τ sig (Elt F)) : Prop :=
  (∀ c : Dev nD, r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_v1) = result m c)
    (hY := fun c s' => by
      unfold kept argPts resPts
      iintro ⟨⟨Hu, Ha, Hr⟩, -, HSI⟩
      ihave H := (read_at _ _ s') $$ [Ha HSI]
      · isplitl [Ha] <;> iassumption
      icases H with ⟨%ha, HSI⟩
      ihave H := (read_at _ _ s') $$ [Hr HSI]
      · isplitl [Hr] <;> iassumption
      icases H with ⟨%hr, HSI⟩
      ihave %hu := (tcUnscoped_read c s') $$ [Hu HSI]
      · isplitl [Hu] <;> iassumption
      imodintro
      isplitr
      · ipureintro; exact ⟨hu, ha, hr⟩
      iexact HSI)
    (hQ := fun s h hs => ⟨fun c => ⟨(h c).2.2.2.2, ((h c).1 0).trans ((dats (F := F) m 0 c).arrAt_in (0 : Fin 1) rfl _), (h c).2.2.2.1⟩, sem_eq_zero hs fun c => (h c).2.2.1⟩)

end Cert.KernelIdeal.Run
-- ==== Proof.Frames.lean ====
/-
# The kernel's frames

The kernel and its idealization have the same text, so one run over any float values serves both.
-/
module

public import proofs.«01_k».proof.Proof.Launch
public import proofs.«01_k».proof.Defs
public import proofs.«01_k».proof.Proof.Gen.Kernel

@[expose] public section

set_option maxRecDepth 16384

noncomputable section

namespace Cert.Proof

open Idealize.ShloMosaic Idealize.ShloMosaic.TcCoe Idealize.SL Idealize.SL.Sem

variable {F : FTy → Type} [FloatOps F]

/-- The arguments end unchanged and every semaphore at zero, over any float values. -/
theorem frames (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).2.1, (h.1 c).2.2⟩, h.2⟩)
    (Cert.KernelIdeal.Run.run_main (F := F) m ρ)

/-- The two body tables are one. -/
theorem same_bodies : Cert.KernelIdeal.defs₀ (F := F) = Cert.Kernel.defs₀ (F := F) := by
  refine congrArg Defs.onTc (funext fun l => funext fun a => ?_)
  match l, a with
  | ⟨0, _⟩, (t, s) => rfl
  | ⟨_ + 1, h⟩, _ => exact absurd h (Nat.not_lt.2 (Nat.le_add_left _ _))

theorem same_defs : Cert.KernelIdeal.defs (F := F) = Cert.Kernel.defs (F := F) :=
  congrArg (Pipeline.defs (Cert.KernelIdeal.pcfgs (F := F))) same_bodies

/-- The kernel's own text at the float values of the chip. -/
theorem frame_kernel : Cert.quiescent_Kernel := fun m ρ _ =>
  (congrArg (fun D => θ_run D (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) (same_defs (F := Bits))).mp (frames (F := Bits) m ρ)

theorem frame_ideal : Cert.quiescent_KernelIdeal := fun m ρ _ => frames (F := Ideal) m ρ

theorem frame_ideal_finite [Cert.Pre_finite_KernelIdeal.Facts] : Cert.quiescent_KernelIdeal_pre_finite_KernelIdeal := fun m ρ _ => frames (F := Ideal) m ρ

end Cert.Proof
-- ==== Proof.Reads.lean ====
/-
# What the kernel's pieces compute over the extended reals

Each payload read at an index: a tile is the exponential of a row of the activations times a column of the weights, a
running sum grows by a tile's row, and a scaled tile is the tile times the row's reciprocal.
-/
module

public import proofs.«01_k».proof.Proof.Gen.KernelIdeal
public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Run

open Cert.KernelIdeal Cert.KernelIdeal.Gen
open Idealize.ShloMosaic

/-- One exponential: row `r` of the activations against column `l` of a chunk. -/
def ex1 (x : S512x1024.Idx → EReal) (w : S1x1024x1024.Idx → EReal) (r : Fin 512) (l : Fin 1024) : EReal :=
  Ideal.exp (∑ k : Fin 1024, x (ix2 r k) * w (ix3 0 k l))

variable (x : FVec Ideal S512x1024 .bf16) (X : Vec Ideal S512x1024 .f32) (w : Vec Ideal S1x1024x1024 .f32) (s : FVec Ideal S512x1 .f32) (t : Vec Ideal S1x512x1024 .bf16) (r : Fin 512) (l : Fin 1024)

theorem read_acts : k0_pay1 (F := Ideal) X (ix2 r l) = X (ix2 r l) := by pointwise [k0_pay1]
theorem read_zero : k0_pay2 (F := Ideal) (ix2 r 0) = 0 := by pointwise [k0_pay2]
theorem read_tile : k0_pay4 x w (ix3 0 r l) = ex1 x w r l := by pointwise [k0_pay4, k0_pay3, ex1]
theorem read_sum5 : k0_pay5 x s w (ix2 r 0) = s (ix2 r 0) + ∑ l : Fin 1024, ex1 x w r l := by pointwise [k0_pay5, k0_pay3, ex1]
theorem read_sum9 : k0_pay9 s (k0_pay6 x w) (ix2 r 0) = s (ix2 r 0) + ∑ l : Fin 1024, ex1 x w r l := by pointwise [k0_pay9, k0_pay6, ex1]
theorem read_sum12 : k0_pay12 x s w (ix2 r 0) = s (ix2 r 0) + ∑ l : Fin 1024, ex1 x w r l := by pointwise [k0_pay12, k0_pay10, ex1]
theorem read_sum15 : k0_pay15 x s w (ix2 r 0) = s (ix2 r 0) + ∑ l : Fin 1024, ex1 x w r l := by pointwise [k0_pay15, k0_pay13, ex1]
theorem read_sum18 : k0_pay18 x s w (ix2 r 0) = s (ix2 r 0) + ∑ l : Fin 1024, ex1 x w r l := by pointwise [k0_pay18, k0_pay16, ex1]
theorem read_sum21 : k0_pay21 x s w (ix2 r 0) = s (ix2 r 0) + ∑ l : Fin 1024, ex1 x w r l := by pointwise [k0_pay21, k0_pay19, ex1]
theorem read_sum24 : k0_pay24 x s w (ix2 r 0) = s (ix2 r 0) + ∑ l : Fin 1024, ex1 x w r l := by pointwise [k0_pay24, k0_pay22, ex1]
theorem read_sum28 : k0_pay28 s (k0_pay25 x w) (ix2 r 0) = s (ix2 r 0) + ∑ l : Fin 1024, ex1 x w r l := by pointwise [k0_pay28, k0_pay25, k0_pay26, ex1]
theorem read_add29 : k0_pay29 s t (ix2 r 0) = s (ix2 r 0) + ∑ l : Fin 1024, t (ix3 0 r l) := by pointwise [k0_pay29]
theorem read_add30 : k0_pay30 s t (ix2 r 0) = s (ix2 r 0) + ∑ l : Fin 1024, t (ix3 0 r l) := by pointwise [k0_pay30]
theorem read_add31 : k0_pay31 s t (ix2 r 0) = s (ix2 r 0) + ∑ l : Fin 1024, t (ix3 0 r l) := by pointwise [k0_pay31]
theorem read_add32 : k0_pay32 s t (ix2 r 0) = s (ix2 r 0) + ∑ l : Fin 1024, t (ix3 0 r l) := by pointwise [k0_pay32]
theorem read_add33 : k0_pay33 s t (ix2 r 0) = s (ix2 r 0) + ∑ l : Fin 1024, t (ix3 0 r l) := by pointwise [k0_pay33]
theorem read_recip : k0_pay34 s (ix2 r 0) = Ideal.div 1 (s (ix2 r 0)) := by pointwise [k0_pay34]
theorem read_scaled : k0_pay35 s t (ix3 0 r l) = t (ix3 0 r l) * s (ix2 r 0) := by pointwise [k0_pay35]

end Cert.KernelIdeal.Run
-- ==== Proof.RefRead.lean ====
/-
# What the reference computes over the extended reals
-/
module

public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Value

open Cert.ReferenceIdeal Cert.ReferenceIdeal.Gen
open Idealize.ShloMosaic

/-- The logit of row `r` and column `v`. -/
def logit (X : S512x1024.Idx → EReal) (W : S1024x16384.Idx → EReal) (r : Fin 512) (v : Fin 16384) : EReal :=
  ∑ k : Fin 1024, X (ix2 r k) * W (ix2 k v)

/-- The greatest logit of a row. -/
def top (X : S512x1024.Idx → EReal) (W : S1024x16384.Idx → EReal) (r : Fin 512) : EReal :=
  Finset.univ.fold max ⊥ fun v : Fin 16384 => logit X W r v

/-- The reference's composed term. -/
def spec (X : FVec Ideal S512x1024 .f32) (W : FVec Ideal S1024x16384 .f32) : FVec Ideal S512x16384 .bf16 :=
  have p : FVec Ideal S512x16384 .f32 := Host.dotGeneral dot_S512x1024_S1024x16384_S512x16384_1_0_0_1_n_n none X W
  have M : FVec Ideal S512 .f32 := Host.reduce FloatOps.maximumf p (constant S_ .f32 0xFF800000#32) reducesTo_S512x16384_S512_d1 h_S_
  have e : FVec Ideal S512x16384 .f32 := Host.exp (subf p (broadcastInDim S512x16384 ![0, 1] bcast_S512x1_S512x16384_0_1 (broadcastInDim S512x1 ![0] bcast_S512_S512x1_0 M)))
  truncf .bf16 (Host.divf e (broadcastInDim S512x16384 ![0, 1] bcast_S512x1_S512x16384_0_1 (broadcastInDim S512x1 ![0] bcast_S512_S512x1_0
    (Host.reduceAdd e (constant S_ .f32 0x00000000#32) reducesTo_S512x16384_S512_d1 h_S_)))) bitsLt_bf16_f32

theorem spec_read (X : FVec Ideal S512x1024 .f32) (W : FVec Ideal S1024x16384 .f32) (r : Fin 512) (v : Fin 16384) :
    spec X W (ix2 r v) = Ideal.div (Ideal.exp (logit X W r v - top X W r)) (∑ u : Fin 16384, Ideal.exp (logit X W r u - top X W r)) := by
  have h : Ideal.ofBits .f32 0xFF800000#32 = ⊥ := by simp [Ideal.ofBits, Ideal.ieee]
  pointwise [spec, logit, top]
  rw [h]

open Idealize.ShloMosaic.TcCoe Idealize.SL.Sem in
/-- The reference ends at `spec` of its arguments. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (run (F := Ideal) m ρ)

end Cert.ReferenceIdeal.Value
-- ==== Proof.Softmax.lean ====
/-
# Softmax with and without the maximum

Over real logits the exponential over the sum of the exponentials does not change when the same number is taken from
every logit. The kernel takes none away and multiplies by the reciprocal; the reference takes the greatest away and
divides.
-/
module

public import Idealize.ShloMosaic.Lib.IdealHost

@[expose] public section

noncomputable section

namespace Cert.Softmax

open Idealize.ShloMosaic

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals is real. -/
theorem dot_real {n : ℕ} (a b : Fin n → EReal) (ha : ∀ k, ∃ q : ℝ, a k = q) (hb : ∀ k, ∃ q : ℝ, b k = q) : ∃ q : ℝ, ∑ k, a k * b k = q := by
  choose f hf using ha
  choose g hg using hb
  refine ⟨∑ k, f k * g k, ?_⟩
  rw [← sum_real]
  exact Finset.sum_congr rfl fun k _ => by rw [hf, hg, EReal.coe_mul]

/-- The greatest of some reals is real. -/
theorem max_real {n : ℕ} (hn : 0 < n) (l : Fin n → ℝ) : ∃ q : ℝ, (Finset.univ.fold max ⊥ fun v => ((l v : ℝ) : EReal)) = q := by
  have h1 : (Finset.univ.fold max ⊥ fun v => ((l v : ℝ) : EReal)) < ⊤ := (Finset.fold_max_lt _).mpr ⟨bot_lt_top, fun v _ => EReal.coe_lt_top _⟩
  have h2 : ((l ⟨0, hn⟩ : ℝ) : EReal) ≤ Finset.univ.fold max ⊥ fun v => ((l v : ℝ) : EReal) := (Finset.le_fold_max _).mpr (Or.inr ⟨⟨0, hn⟩, Finset.mem_univ _, le_rfl⟩)
  exact ⟨_, (EReal.coe_toReal h1.ne (ne_bot_of_le_ne_bot (EReal.coe_ne_bot _) h2)).symm⟩

theorem same {n : ℕ} (hn : 0 < n) (L : Fin n → EReal) (hL : ∀ v, ∃ q : ℝ, L v = q) (v : Fin n) :
    Ideal.exp (L v) * Ideal.div 1 (∑ u, Ideal.exp (L u))
      = Ideal.div (Ideal.exp (L v - Finset.univ.fold max ⊥ L)) (∑ u, Ideal.exp (L u - Finset.univ.fold max ⊥ L)) := by
  choose l hl using hL
  obtain rfl : L = fun u => ((l u : ℝ) : EReal) := funext hl
  obtain ⟨M, hM⟩ := max_real hn l
  rw [hM]
  have hpos (f : Fin n → ℝ) : (0 : ℝ) < ∑ u, Real.exp (f u) := Finset.sum_pos (fun u _ => Real.exp_pos _) ⟨⟨0, hn⟩, Finset.mem_univ _⟩
  have e1 : (∑ u, Ideal.exp ((l u : ℝ) : EReal)) = ((∑ u, Real.exp (l u) : ℝ) : EReal) := sum_real Finset.univ fun u => Real.exp (l u)
  have e2 (u : Fin n) : Ideal.exp (((l u : ℝ) : EReal) - (M : EReal)) = ((Real.exp (l u - M) : ℝ) : EReal) := by rw [← EReal.coe_sub]; rfl
  have e3 : (∑ u, Ideal.exp (((l u : ℝ) : EReal) - (M : EReal))) = ((∑ u, Real.exp (l u - M) : ℝ) : EReal) := by
    rw [← sum_real]; exact Finset.sum_congr rfl fun u _ => e2 u
  have e4 : Ideal.exp ((l v : ℝ) : EReal) = ((Real.exp (l v) : ℝ) : EReal) := rfl
  show Ideal.exp ((l v : ℝ) : EReal) * Ideal.div 1 (∑ u, Ideal.exp ((l u : ℝ) : EReal)) = Ideal.div (Ideal.exp (((l v : ℝ) : EReal) - (M : EReal))) (∑ u, Ideal.exp (((l u : ℝ) : EReal) - (M : EReal)))
  rw [e1, e2, e3, e4, show (1 : EReal) = ((1 : ℝ) : EReal) from rfl, div_real _ _ (hpos _).ne', div_real _ _ (hpos _).ne', ← EReal.coe_mul]
  congr 1
  have e5 : ∑ u, Real.exp (l u - M) = (∑ u, Real.exp (l u)) / Real.exp M := by
    rw [Finset.sum_div]; exact Finset.sum_congr rfl fun u _ => Real.exp_sub _ _
  rw [e5, Real.exp_sub]
  have := (hpos l).ne'
  have := (Real.exp_pos M).ne'
  field_simp

end Cert.Softmax
-- ==== Proof.Values.lean ====
/-
# What the run leaves, over the extended reals

Read against the whole arrays: every slot of a device holds the exponentials of one block of 1024 logits, the sixteen
slots hold the sixteen blocks, their sum is the sum over a row, and the result is the exponential times the sum's
reciprocal.
-/
module

public import proofs.«01_k».proof.Proof.Launch
public import proofs.«01_k».proof.Proof.Reads
public import proofs.«01_k».proof.Proof.RefRead
public import proofs.«01_k».proof.Proof.Softmax
public import Idealize.ShloMosaic.Lib.Layout

@[expose] public section

set_option maxRecDepth 16384

noncomputable section

namespace Cert.KernelIdeal.Run

open Cert.KernelIdeal Cert.KernelIdeal.Gen
open Idealize.ShloMosaic Idealize.ShloMosaic.TcCoe
open Cert.ReferenceIdeal.Value (logit)

/-- The block of the whole weights device `c` holds. -/
abbrev part (W : ReferenceIdeal.S1024x16384.Idx → EReal) (c : Dev nD) : S1024x8192.Idx → EReal :=
  Layout.blockN ⟨2, ![1024, 8192]⟩ ⟨2, ![1024, 16384]⟩ (Layout.meshBlock [2, 2, 2] ![[], [0]] c) W

theorem col_lt (c : Dev nD) (l : Fin 8192) : 8192 * (c.val / 4) + l.val < 16384 := by have := c.isLt; have := l.isLt; have : nD = 8 := rfl; omega

theorem part_read (W : ReferenceIdeal.S1024x16384.Idx → EReal) (c : Dev nD) (k : Fin 1024) (l : Fin 8192) :
    part W c (ix2 k l) = W (ix2 k ⟨8192 * (c.val / 4) + l.val, col_lt c l⟩) := by
  refine congrArg W (funext fun a => Fin.ext ?_)
  have h0 : ∀ c : Dev nD, Layout.meshLin [2, 2, 2] c.val [] = 0 := by decide +kernel
  have h1 : ∀ c : Dev nD, Layout.meshLin [2, 2, 2] c.val [0] = c.val / 4 := by decide +kernel
  fin_cases a
  · show Layout.meshLin [2, 2, 2] c.val [] * 1024 + k.val = k.val
    rw [h0, Nat.zero_mul, Nat.zero_add]
  · show Layout.meshLin [2, 2, 2] c.val [0] * 8192 + l.val = 8192 * (c.val / 4) + l.val
    rw [h1]; omega

/-- The exponential of the logit at row `r`, column `l` of block `p`. -/
def ev (X : S512x1024.Idx → EReal) (W : ReferenceIdeal.S1024x16384.Idx → EReal) (r : Fin 512) (p : ℕ) (l : Fin 1024) : EReal :=
  Ideal.exp (logit X W r ⟨(p * 1024 + l.val) % 16384, Nat.mod_lt _ (by decide)⟩)

section
variable (m : (ℓ : Loc nD τ sig) → Buf (Elt Ideal) ℓ) (X : S512x1024.Idx → EReal) (W : ReferenceIdeal.S1024x16384.Idx → EReal)
  (hX : ∀ c : Dev nD, m ((c.tc : Thread nD τ).loc main_arg0) = X) (hW : ∀ c : Dev nD, m ((c.tc : Thread nD τ).loc main_arg1) = part W c)
include hX

theorem iblk_read (c : Dev nD) : iblk m c 0 t0_0 = X := by
  rw [← hX c]
  funext i
  exact congrArg (m ((c.tc : Thread nD τ).loc main_arg0)) (funext fun a => Fin.ext (Pipeline.Window.rect_emb_val_of_index_zero win0_0 t0_0 a (by fin_cases a <;> rfl) i))

theorem xv_read (c : Dev nD) (r : Fin 512) (k : Fin 1024) : xv m c (ix2 r k) = X (ix2 r k) := by
  unfold xv; rw [iblk_read m X hX c]; exact read_acts X r k

include hW

theorem ch_read (c : Dev nD) (j : ℕ) (k : Fin 1024) (l : Fin 1024) :
    ch m c j (ix3 0 k l) = W (ix2 k ⟨((8 * (c.val / 4) + perm c j) * 1024 + l.val) % 16384, Nat.mod_lt _ (by decide)⟩) := by
  show m ((c.tc : Thread nD τ).loc main_arg1) (ix2 k ⟨(perm c j * 1024 + l.val) % 8192, Nat.mod_lt _ (by decide)⟩) = _
  rw [hW c, part_read]
  refine congrArg W (congrArg (ix2 k) (Fin.ext ?_))
  have h : perm c j < 8 := Nat.mod_lt _ (by decide)
  have := l.isLt; have := c.isLt; have : nD = 8 := rfl
  show 8192 * (c.val / 4) + (perm c j * 1024 + l.val) % 8192 = ((8 * (c.val / 4) + perm c j) * 1024 + l.val) % 16384
  omega

theorem ex1_read (c : Dev nD) (j : ℕ) (r : Fin 512) (l : Fin 1024) :
    ex1 (xv m c) (ch m c j) r l = ev X W r (8 * (c.val / 4) + perm c j) l := by
  unfold ex1 ev logit
  exact congrArg Ideal.exp (Finset.sum_congr rfl fun k _ => by rw [xv_read m X hX, ch_read m X W hX hW])

theorem tile_read (c : Dev nD) (j : ℕ) (r : Fin 512) (l : Fin 1024) :
    tileOf m c j (ix3 0 r l) = ev X W r (8 * (c.val / 4) + perm c j) l :=
  (read_tile _ _ r l).trans (ex1_read m X W hX hW c j r l)

omit hX hW in
theorem src_blk : ∀ (c : Dev nD) (k : Fin 16), ¬ k.val < 8 →
    8 * ((srcDev c k.val).val / 4) + perm (srcDev c k.val) ((k.val - 8) % 2) = outBlk c k.val := by decide +kernel

theorem slot_read (c : Dev nD) (k : ℕ) (hk : k < 16) (r : Fin 512) (l : Fin 1024) : E m c k (ix3 0 r l) = ev X W r (outBlk c k) l := by
  unfold E
  by_cases h : k < 8
  · rw [if_pos h, tile_read m X W hX hW]; unfold outBlk; rw [if_pos h]
  · rw [if_neg h, tile_read m X W hX hW]
    exact congrArg (fun p => ev X W r p l) (src_blk c ⟨k, hk⟩ h)

/-- The blocks in the order a device sums them. -/
def order (c : Dev nD) : List ℕ :=
  [8 * (c.val / 4) + perm c 0, 8 * (c.val / 4) + perm c 1, 8 * (c.val / 4) + perm c 2, 8 * (c.val / 4) + perm c 3,
    8 * (c.val / 4) + perm c 4, 8 * (c.val / 4) + perm c 5, 8 * (c.val / 4) + perm c 6, 8 * (c.val / 4) + perm c 7,
    outBlk c (sX c 0), outBlk c (sX c 1), outBlk c (sY c 0), outBlk c (sY c 1),
    outBlk c (slotOf c 15), outBlk c (slotOf c 16), outBlk c (slotOf c 17), outBlk c (slotOf c 18)]

omit hX hW in
theorem order_perm : ∀ c : Dev nD, (order c).Perm (List.range 16) := by decide +kernel

omit hX hW in
theorem slots_lt : ∀ c : Dev nD, sX c 0 < 16 ∧ sX c 1 < 16 ∧ sY c 0 < 16 ∧ sY c 1 < 16
    ∧ slotOf c 15 < 16 ∧ slotOf c 16 < 16 ∧ slotOf c 17 < 16 ∧ slotOf c 18 < 16 := by decide +kernel

theorem sum_order (c : Dev nD) (r : Fin 512) :
    rowSum m c (ix2 r 0) = ((order c).map fun p => ∑ l : Fin 1024, ev X W r p l).sum := by
  obtain ⟨a0, a1, b0, b1, d0, d1, d2, d3⟩ := slots_lt c
  have hr (S : FVec Ideal S512x1 .f32) : rs m c S 4 = k0_pay33 (k0_pay33 (k0_pay33 (k0_pay33 S (E m c (slotOf c 15))) (E m c (slotOf c 16))) (E m c (slotOf c 17))) (E m c (slotOf c 18)) := rfl
  unfold rowSum
  rw [hr]
  simp only [read_add33, read_add32, read_add31, read_add30, read_add29, read_sum28, read_sum24, read_sum21, read_sum18, read_sum15, read_sum12, read_sum9, read_sum5, read_zero,
    ex1_read m X W hX hW, slot_read m X W hX hW c _ a0, slot_read m X W hX hW c _ a1, slot_read m X W hX hW c _ b0, slot_read m X W hX hW c _ b1,
    slot_read m X W hX hW c _ d0, slot_read m X W hX hW c _ d1, slot_read m X W hX hW c _ d2, slot_read m X W hX hW c _ d3]
  rw [List.sum_eq_foldl]
  rfl

omit hX hW in
/-- A row's sum, block by block. -/
theorem sum_blocks (r : Fin 512) : ((List.range 16).map fun p => ∑ l : Fin 1024, ev X W r p l).sum = ∑ v : Fin 16384, Ideal.exp (logit X W r v) := by
  have h1 : ((List.range 16).map fun p => ∑ l : Fin 1024, ev X W r p l).sum = ∑ p : Fin 16, ∑ l : Fin 1024, ev X W r p.val l := by
    rw [Fin.sum_univ_eq_sum_range (fun p => ∑ l : Fin 1024, ev X W r p l) 16]; rfl
  rw [h1, ← Fintype.sum_prod_type' (f := fun (p : Fin 16) (l : Fin 1024) => ev X W r p.val l)]
  refine Fintype.sum_equiv (finProdFinEquiv (m := 16) (n := 1024)) _ _ fun x => ?_
  unfold ev
  refine congrArg (fun v => Ideal.exp (logit X W r v)) (Fin.ext ?_)
  have := x.1.isLt; have := x.2.isLt
  show (x.1.val * 1024 + x.2.val) % 16384 = x.2.val + 1024 * x.1.val
  omega

theorem row_read (c : Dev nD) (r : Fin 512) : rowSum m c (ix2 r 0) = ∑ v : Fin 16384, Ideal.exp (logit X W r v) := by
  rw [sum_order m X W hX hW, ((order_perm c).map _).sum_eq, sum_blocks]

omit hX hW in
theorem slot_of_blk : ∀ (c : Dev nD) (p : Fin 16), slotFor c p.val < 16 ∧ outBlk c (slotFor c p.val) = p.val := by decide +kernel

/-- The result at row `r`, column `v`. -/
theorem result_read (c : Dev nD) (r : Fin 512) (v : Fin 16384) :
    result m c (ix2 r v) = Ideal.exp (logit X W r v) * Ideal.div 1 (∑ u : Fin 16384, Ideal.exp (logit X W r u)) := by
  have hv := v.isLt
  obtain ⟨hk, hb⟩ := slot_of_blk c ⟨v.val / 1024, by omega⟩
  refine (read_scaled (recip m c) (E m c (slotFor c (v.val / 1024))) r ⟨v.val % 1024, Nat.mod_lt _ (by decide)⟩).trans ?_
  rw [slot_read m X W hX hW c _ hk]
  unfold recip
  rw [read_recip, row_read m X W hX hW]
  congr 1
  unfold ev
  refine congrArg (fun v => Ideal.exp (logit X W r v)) (Fin.ext ?_)
  show (outBlk c (slotFor c (v.val / 1024)) * 1024 + v.val % 1024) % 16384 = v.val
  have hb : outBlk c (slotFor c (v.val / 1024)) = v.val / 1024 := hb
  rw [hb]; omega

/-- On real arrays the kernel's result is the reference's. -/
theorem result_spec (rX : ∀ i k, ∃ q : ℝ, X (ix2 i k) = q) (rW : ∀ i k, ∃ q : ℝ, W (ix2 i k) = q) (c : Dev nD) :
    result m c = Cert.ReferenceIdeal.Value.spec X W := by
  funext i
  have hi : i = ix2 (i 0) (i 1) := by funext a; fin_cases a <;> rfl
  rw [hi]
  refine (result_read m X W hX hW c (i 0) (i 1)).trans ?_
  refine Eq.trans ?_ (Cert.ReferenceIdeal.Value.spec_read X W (i 0) (i 1)).symm
  exact Cert.Softmax.same (by decide) (logit X W (i 0)) (fun v => Cert.Softmax.dot_real _ _ (fun k => rX _ k) (fun k => rW k v)) (i 1)

end

/-- The whole weights are real when every device's block is. -/
theorem whole_real (W : ReferenceIdeal.S1024x16384.Idx → EReal) (h : ∀ (c : Dev nD) i k, ∃ q : ℝ, part W c (ix2 i k) = q) (i : Fin 1024) (k : Fin 16384) : ∃ q : ℝ, W (ix2 i k) = q := by
  have hk := k.isLt
  obtain ⟨q, hq⟩ := h ⟨4 * (k.val / 8192), by have : nD = 8 := rfl; omega⟩ i ⟨k.val % 8192, Nat.mod_lt _ (by decide)⟩
  refine ⟨q, hq ▸ ?_⟩
  rw [part_read]
  refine congrArg W (congrArg (ix2 i) (Fin.ext ?_))
  show k.val = 8192 * (4 * (k.val / 8192) / 4) + k.val % 8192
  omega

end Cert.KernelIdeal.Run
-- ==== Proof.Finite.lean ====
/-
# What the precondition says

Every entry of the activations and of a device's weights has an absolute value below infinity: it is a real number.
-/
module

public import proofs.«01_k».proof.Pre_finite_KernelIdeal
public import proofs.«01_k».proof.Pre_finite_ReferenceIdeal
public import Idealize.ShloMosaic.Lib.Pointwise
public import Idealize.ShloMosaic.Lib.IdealHost

@[expose] public section

set_option maxRecDepth 16384

noncomputable section

namespace Cert.Pre_finite_KernelIdeal

open Idealize.ShloMosaic

/-- A value whose absolute value is below infinity is a real number. -/
theorem real_of_abs {a : EReal} (h : max a (-a) < ⊤) : ∃ q : ℝ, a = q := by
  induction a using EReal.rec with
  | bot => simp at h
  | coe q => exact ⟨q, rfl⟩
  | top => simp at h

theorem both (a b : BitVec 1) : IntOp.andi a b = 1#1 → a = 1#1 ∧ b = 1#1 := by revert a b; decide

/-- A conjunction that holds holds everywhere. -/
theorem each {ι : Type} [DecidableEq ι] (f : ι → BitVec 1) (s : Finset ι) (h : s.fold IntOp.andi 1#1 f = 1#1) : ∀ i ∈ s, f i = 1#1 := by
  induction s using Finset.induction_on with
  | empty => intro i hi; exact absurd hi (Finset.notMem_empty i)
  | insert a s ha ih =>
    rw [Finset.fold_insert ha] at h
    intro i hi
    rcases Finset.mem_insert.mp hi with e | e
    · rw [e]; exact (both _ _ h).1
    · exact ih (both _ _ h).2 i e

theorem real_of_lt {a : EReal} (h : BitVec.ofBool (decide (FloatOps.absf (F := Ideal) (φ := .f32) a < Ideal.ofBits FTy.f32 0x7F800000#32)) = 1#1) : ∃ q : ℝ, a = q := by
  have e : Ideal.ofBits FTy.f32 0x7F800000#32 = ⊤ := by simp [Ideal.ofBits, Ideal.ieee]
  rw [e] at h
  refine real_of_abs ?_
  by_contra hn
  have hd : decide (FloatOps.absf (F := Ideal) (φ := .f32) a < ⊤) = false := decide_eq_false hn
  rw [hd] at h; exact absurd h (by decide)

instance facts : Facts where
  bcast_S_S512x1024 := by decide
  reducesTo_S512x1024_S_d0_1 := by decide
  h_S_ := by decide
  bcast_S_S1024x8192 := by decide
  reducesTo_S1024x8192_S_d0_1 := by decide

/-- Where the precondition holds every entry is a real number. -/
theorem all_real (X : FVec Ideal S512x1024 .f32) (W : FVec Ideal S1024x8192 .f32) (h : fn X W = fun _ => 1#1) :
    (∀ i k, ∃ q : ℝ, X (ix2 i k) = q) ∧ (∀ i k, ∃ q : ℝ, W (ix2 i k) = q) := by
  have h := congrFun h ix0
  pointwise [fn] at h
  have h2 := both _ _ h
  exact ⟨fun i k => real_of_lt (each _ _ h2.1 (i, k) (Finset.mem_univ _)), fun i k => real_of_lt (each _ _ h2.2 (i, k) (Finset.mem_univ _))⟩

end Cert.Pre_finite_KernelIdeal

namespace Cert.Pre_finite_ReferenceIdeal

open Idealize.ShloMosaic

instance facts : Facts where
  bcast_S_S512x1024 := by decide
  reducesTo_S512x1024_S_d0_1 := by decide
  h_S_ := by decide
  bcast_S_S1024x16384 := by decide
  reducesTo_S1024x16384_S_d0_1 := by decide

end Cert.Pre_finite_ReferenceIdeal
-- ==== Proof.Claims.lean ====
/-
# The claims about the reference, and the value claim
-/
module

public import proofs.«01_k».proof.Defs
public import proofs.«01_k».proof.Proof.Frames
public import proofs.«01_k».proof.Proof.Values
public import proofs.«01_k».proof.Proof.Finite

@[expose] public section

noncomputable section

namespace Cert.Proof

open Idealize.ShloMosaic Idealize.ShloMosaic.TcCoe Idealize.SL.Sem

/-- The reference leaves its arguments as they were; it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩) (Cert.ReferenceIdeal.Value.run_spec m ρ)

theorem frame_reference_finite : Cert.quiescent_ReferenceIdeal_pre_finite_ReferenceIdeal := by
  intro m ρ _
  exact (θ_run Cert.ReferenceIdeal.defs _ _).mono (fun r h => ⟨fun c => (h c).2, sem_eq_zero_of_no_sems (by decide) r.2⟩) (Cert.ReferenceIdeal.Value.run_spec m ρ)

/-- On finite arrays every device's result is the reference's. -/
theorem value : Cert.algebraic_KernelIdeal_ReferenceIdeal_pre_finite_KernelIdeal := by
  intro m g m' g' hpre hag
  have hX := fun c => (hag c).1
  have hW := fun c => (hag c).2
  have hr := fun c => Cert.Pre_finite_KernelIdeal.all_real _ _ (hpre c)
  have rX := (hr 0).1
  rw [hX 0] at rX
  have rW := Cert.KernelIdeal.Run.whole_real _ fun c i k => by have h := (hr c).2 i k; rw [hW c] at h; exact h
  refine ⟨Cert.ReferenceIdeal.Value.spec (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(h.1 c).1.trans (Cert.KernelIdeal.Run.result_spec m _ _ hX hW rX rW c), (h.1 c).2⟩) (Cert.KernelIdeal.Run.run_main m g)
  · exact (θ_run Cert.ReferenceIdeal.defs _ _).mono (fun r h => h 0) (Cert.ReferenceIdeal.Value.run_spec m' g')

end Cert.Proof
-- ==== Proof.lean ====
/-
# The claims

The frames of the kernel and of its ideal reading come from the run of all eight devices (Proof/Launch.lean,
Proof/Frames.lean); the reference's frames and the value claim from Proof/Claims.lean; the ideal reading rewrote no
operation.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_finite_KernelIdeal.facts, Cert.Pre_finite_ReferenceIdeal.facts,
    frame_kernel, frame_ideal, frame_ideal_finite, frame_reference, frame_reference_finite, trivial, value⟩

end Cert.Proof

end
